-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_is_sorted [hPre_is_sorted : Cert.Pre_is_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_is_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_is_sorted [hPre_is_sorted : Cert.Pre_is_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_sorted [hKernelIdeal : Cert.KernelIdeal.Facts] [hPre_is_sorted : Cert.Pre_is_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_sorted m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_sorted [hReferenceIdeal : Cert.ReferenceIdeal.Facts] [hPre_is_sorted : Cert.Pre_is_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_is_sorted [hKernelIdeal : Cert.KernelIdeal.Facts] [hReferenceIdeal : Cert.ReferenceIdeal.Facts] [hPre_is_sorted : Cert.Pre_is_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_is_sorted : Cert.Pre_is_sorted.Facts),
    quiescent_Kernel (hKernel := hKernel)
    ∧ quiescent_KernelIdeal (hKernelIdeal := hKernelIdeal)
    ∧ quiescent_KernelIdeal_pre_is_sorted (hKernelIdeal := hKernelIdeal) (hPre_is_sorted := hPre_is_sorted)
    ∧ quiescent_ReferenceIdeal (hReferenceIdeal := hReferenceIdeal)
    ∧ quiescent_ReferenceIdeal_pre_is_sorted (hReferenceIdeal := hReferenceIdeal) (hPre_is_sorted := hPre_is_sorted)
    ∧ preserves_Kernel_KernelIdeal
    ∧ algebraic_KernelIdeal_ReferenceIdeal_pre_is_sorted (hKernelIdeal := hKernelIdeal) (hReferenceIdeal := hReferenceIdeal) (hPre_is_sorted := hPre_is_sorted)
-- ==== Pre_is_sorted.lean ====
abbrev S16777216 : Shape := ⟨1, ![16777216]⟩
abbrev S3 : Shape := ⟨1, ![3]⟩
abbrev S1 : Shape := ⟨1, ![1]⟩
abbrev S_ : Shape := ⟨0, ![]⟩

class Facts : Prop where
  slices_S3_S1_0 : S3.Slices ![0] S1
  shapeCasts_S1_S_ : S1.ShapeCasts S_
  slices_S3_S1_1 : S3.Slices ![1] S1
  slices_S3_S1_2 : S3.Slices ![2] S1

variable [Facts]

def fn {F : FTy → Type} [FloatOps F] (main_arg0 : FVec F S16777216 .f32) (main_arg1 : FVec F S3 .f32) : IVec S_ 1 :=
  let main_v0 : FVec F S1 .f32 := (extractStridedSlice S1 ![0] · slices_S3_S1_0) main_arg1
  let main_v1 : FVec F S_ .f32 := shapeCast S_ main_v0 shapeCasts_S1_S_
  let main_v2 : FVec F S1 .f32 := (extractStridedSlice S1 ![1] · slices_S3_S1_1) main_arg1
  let main_v3 : FVec F S_ .f32 := shapeCast S_ main_v2 shapeCasts_S1_S_
  let main_v4 : IVec S_ 1 := cmpf .ole main_v1 main_v3
  let main_v5 : FVec F S1 .f32 := (extractStridedSlice S1 ![1] · slices_S3_S1_1) main_arg1
  let main_v6 : FVec F S_ .f32 := shapeCast S_ main_v5 shapeCasts_S1_S_
  let main_v7 : FVec F S1 .f32 := (extractStridedSlice S1 ![2] · slices_S3_S1_2) main_arg1
  let main_v8 : FVec F S_ .f32 := shapeCast S_ main_v7 shapeCasts_S1_S_
  let main_v9 : IVec S_ 1 := cmpf .ole main_v6 main_v8
  let main_v10 : IVec S_ 1 := andi main_v4 main_v9
  main_v10
-- ==== Kernel.lean ====
abbrev S16777216 : Shape := ⟨1, ![16777216]⟩
abbrev S3 : Shape := ⟨1, ![3]⟩
abbrev S_ : Shape := ⟨0, ![]⟩
abbrev S16 : Shape := ⟨1, ![16]⟩
abbrev S16384 : Shape := ⟨1, ![16384]⟩
abbrev S2048 : Shape := ⟨1, ![2048]⟩
abbrev S1 : Shape := ⟨1, ![1]⟩
abbrev S4096 : Shape := ⟨1, ![4096]⟩
abbrev S8192 : Shape := ⟨1, ![8192]⟩

abbrev nBuf : Table → Nat
  | .hbm => 6
  | .local .scVector .vmem => 7
  | _ => 0

abbrev bufTy : (tb : Table) → Fin (nBuf tb) → BufTy
  | .hbm, ⟨0, _⟩ => ⟨S16777216, .f32⟩
  | .hbm, ⟨1, _⟩ => ⟨S3, .f32⟩
  | .hbm, ⟨2, _⟩ => ⟨S_, .i32⟩
  | .hbm, ⟨3, _⟩ => ⟨S_, .f32⟩
  | .hbm, ⟨4, _⟩ => ⟨S16, .f32⟩
  | .hbm, ⟨5, _⟩ => ⟨S16777216, .i32⟩
  | .local .scVector .vmem, ⟨0, _⟩ => ⟨S16, .f32⟩
  | .local .scVector .vmem, ⟨1, _⟩ => ⟨S16384, .f32⟩
  | .local .scVector .vmem, ⟨2, _⟩ => ⟨S16384, .f32⟩
  | .local .scVector .vmem, ⟨3, _⟩ => ⟨S16384, .f32⟩
  | .local .scVector .vmem, ⟨4, _⟩ => ⟨S16384, .i32⟩
  | .local .scVector .vmem, ⟨5, _⟩ => ⟨S16384, .i32⟩
  | .local .scVector .vmem, ⟨6, _⟩ => ⟨S16384, .i32⟩
  | _, _ => ⟨S16777216, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v0_scv : Ref sig .scVector := ⟨.hbm, 4, rfl⟩
abbrev main_arg0_scv : Ref sig .scVector := ⟨.hbm, 0, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let v3 : BitVec 32 := Scalar.addi v2 c0_i32
  ![v3.toNat]
def k0_off1_at (r : Fin 4) : BitVec 32 :=
  if r.val < 2 then
    if r.val < 1 then
      0#32
    else
      2048#32
  else
    if r.val < 3 then
      520192#32
    else
      522240#32
def k0_off2 (i : grid0.Coords) (c4096_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let v25 : BitVec 32 := Scalar.addi v2 c4096_i32
  ![v25.toNat]
@[reducible] def k0_t1_loop : Scf.Loop 32 :=
  let c0_i32_10 : BitVec 32 := 0#32
  let c128_i32 : BitVec 32 := 128#32
  let v34 : BitVec 32 := Scalar.addi c0_i32_10 c128_i32
  let c1_i32_11 : BitVec 32 := 1#32
  ⟨c0_i32_10, v34, c1_i32_11⟩
def k0_off3 (k0_t1 : Fin k0_t1_loop.trips) : Fin 1 → Nat :=
  let c0_i32_492 : BitVec 32 := 0#32
  let c0_i32_10 : BitVec 32 := 0#32
  let c1_i32_11 : BitVec 32 := 1#32
  let arg28 : BitVec 32 := Scf.iv c0_i32_10 c1_i32_11 k0_t1
  let c16_i32 : BitVec 32 := 16#32
  let v737 : BitVec 32 := Scalar.muli arg28 c16_i32
  let v738 : BitVec 32 := Scalar.addi c0_i32_492 v737
  let v739 : Index := Scalar.indexCast v738
  ![v739.toNat]
def k0_off4 (i : grid0.Coords) (c8192_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let v40 : BitVec 32 := Scalar.addi v2 c8192_i32
  ![v40.toNat]
@[reducible] def k0_t2_loop : Scf.Loop 32 :=
  let c0_i32_20 : BitVec 32 := 0#32
  let c128_i32_21 : BitVec 32 := 128#32
  let v49 : BitVec 32 := Scalar.addi c0_i32_20 c128_i32_21
  let c1_i32_22 : BitVec 32 := 1#32
  ⟨c0_i32_20, v49, c1_i32_22⟩
def k0_off5 (k0_t2 : Fin k0_t2_loop.trips) : Fin 1 → Nat :=
  let c0_i32_492 : BitVec 32 := 0#32
  let c0_i32_20 : BitVec 32 := 0#32
  let c1_i32_22 : BitVec 32 := 1#32
  let arg28 : BitVec 32 := Scf.iv c0_i32_20 c1_i32_22 k0_t2
  let c16_i32 : BitVec 32 := 16#32
  let v737 : BitVec 32 := Scalar.muli arg28 c16_i32
  let v738 : BitVec 32 := Scalar.addi c0_i32_492 v737
  let v739 : Index := Scalar.indexCast v738
  ![v739.toNat]
def k0_off6 (i : grid0.Coords) (c16384_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let v55 : BitVec 32 := Scalar.addi v2 c16384_i32
  ![v55.toNat]
@[reducible] def k0_t3_loop : Scf.Loop 32 :=
  let c0_i32_31 : BitVec 32 := 0#32
  let c256_i32 : BitVec 32 := 256#32
  let v64 : BitVec 32 := Scalar.addi c0_i32_31 c256_i32
  let c1_i32_32 : BitVec 32 := 1#32
  ⟨c0_i32_31, v64, c1_i32_32⟩
def k0_off7 (k0_t3 : Fin k0_t3_loop.trips) : Fin 1 → Nat :=
  let c0_i32_492 : BitVec 32 := 0#32
  let c0_i32_31 : BitVec 32 := 0#32
  let c1_i32_32 : BitVec 32 := 1#32
  let arg28 : BitVec 32 := Scf.iv c0_i32_31 c1_i32_32 k0_t3
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t4_loop : Scf.Loop 32 :=
  let c0_i32_43 : BitVec 32 := 0#32
  let c512_i32 : BitVec 32 := 512#32
  let v83 : BitVec 32 := Scalar.addi c0_i32_43 c512_i32
  let c1_i32_44 : BitVec 32 := 1#32
  ⟨c0_i32_43, v83, c1_i32_44⟩
def k0_off8 (k0_t4 : Fin k0_t4_loop.trips) : Fin 1 → Nat :=
  let c0_i32_492 : BitVec 32 := 0#32
  let c0_i32_43 : BitVec 32 := 0#32
  let c1_i32_44 : BitVec 32 := 1#32
  let arg28 : BitVec 32 := Scf.iv c0_i32_43 c1_i32_44 k0_t4
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t5_loop : Scf.Loop 32 :=
  let c0_i32_55 : BitVec 32 := 0#32
  let c1024_i32 : BitVec 32 := 1024#32
  let v102 : BitVec 32 := Scalar.addi c0_i32_55 c1024_i32
  let c1_i32_56 : BitVec 32 := 1#32
  ⟨c0_i32_55, v102, c1_i32_56⟩
def k0_off9 (k0_t5 : Fin k0_t5_loop.trips) : Fin 1 → Nat :=
  let c0_i32_492 : BitVec 32 := 0#32
  let c0_i32_55 : BitVec 32 := 0#32
  let c1_i32_56 : BitVec 32 := 1#32
  let arg28 : BitVec 32 := Scf.iv c0_i32_55 c1_i32_56 k0_t5
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t6_loop : Scf.Loop 32 :=
  let c0_i32_67 : BitVec 32 := 0#32
  let c1024_i32_68 : BitVec 32 := 1024#32
  let v121 : BitVec 32 := Scalar.addi c0_i32_67 c1024_i32_68
  let c1_i32_69 : BitVec 32 := 1#32
  ⟨c0_i32_67, v121, c1_i32_69⟩
def k0_off10 (k0_t6 : Fin k0_t6_loop.trips) : Fin 1 → Nat :=
  let c0_i32_492 : BitVec 32 := 0#32
  let c0_i32_67 : BitVec 32 := 0#32
  let c1_i32_69 : BitVec 32 := 1#32
  let arg28 : BitVec 32 := Scf.iv c0_i32_67 c1_i32_69 k0_t6
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t7_loop : Scf.Loop 32 :=
  let c0_i32_80 : BitVec 32 := 0#32
  let c1024_i32_81 : BitVec 32 := 1024#32
  let v140 : BitVec 32 := Scalar.addi c0_i32_80 c1024_i32_81
  let c1_i32_82 : BitVec 32 := 1#32
  ⟨c0_i32_80, v140, c1_i32_82⟩
def k0_off11 (k0_t7 : Fin k0_t7_loop.trips) : Fin 1 → Nat :=
  let c0_i32_492 : BitVec 32 := 0#32
  let c0_i32_80 : BitVec 32 := 0#32
  let c1_i32_82 : BitVec 32 := 1#32
  let arg28 : BitVec 32 := Scf.iv c0_i32_80 c1_i32_82 k0_t7
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t8_loop : Scf.Loop 32 :=
  let c0_i32_93 : BitVec 32 := 0#32
  let c1024_i32_94 : BitVec 32 := 1024#32
  let v159 : BitVec 32 := Scalar.addi c0_i32_93 c1024_i32_94
  let c1_i32_95 : BitVec 32 := 1#32
  ⟨c0_i32_93, v159, c1_i32_95⟩
def k0_off12 (k0_t8 : Fin k0_t8_loop.trips) : Fin 1 → Nat :=
  let c0_i32_492 : BitVec 32 := 0#32
  let c0_i32_93 : BitVec 32 := 0#32
  let c1_i32_95 : BitVec 32 := 1#32
  let arg28 : BitVec 32 := Scf.iv c0_i32_93 c1_i32_95 k0_t8
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t9_loop : Scf.Loop 32 :=
  let c0_i32_106 : BitVec 32 := 0#32
  let c1024_i32_107 : BitVec 32 := 1024#32
  let v178 : BitVec 32 := Scalar.addi c0_i32_106 c1024_i32_107
  let c1_i32_108 : BitVec 32 := 1#32
  ⟨c0_i32_106, v178, c1_i32_108⟩
def k0_off13 (k0_t9 : Fin k0_t9_loop.trips) : Fin 1 → Nat :=
  let c0_i32_492 : BitVec 32 := 0#32
  let c0_i32_106 : BitVec 32 := 0#32
  let c1_i32_108 : BitVec 32 := 1#32
  let arg28 : BitVec 32 := Scf.iv c0_i32_106 c1_i32_108 k0_t9
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t10_loop : Scf.Loop 32 :=
  let c0_i32_119 : BitVec 32 := 0#32
  let c1024_i32_120 : BitVec 32 := 1024#32
  let v197 : BitVec 32 := Scalar.addi c0_i32_119 c1024_i32_120
  let c1_i32_121 : BitVec 32 := 1#32
  ⟨c0_i32_119, v197, c1_i32_121⟩
def k0_off14 (k0_t10 : Fin k0_t10_loop.trips) : Fin 1 → Nat :=
  let c0_i32_492 : BitVec 32 := 0#32
  let c0_i32_119 : BitVec 32 := 0#32
  let c1_i32_121 : BitVec 32 := 1#32
  let arg28 : BitVec 32 := Scf.iv c0_i32_119 c1_i32_121 k0_t10
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t11_loop : Scf.Loop 32 :=
  let c0_i32_132 : BitVec 32 := 0#32
  let c1024_i32_133 : BitVec 32 := 1024#32
  let v216 : BitVec 32 := Scalar.addi c0_i32_132 c1024_i32_133
  let c1_i32_134 : BitVec 32 := 1#32
  ⟨c0_i32_132, v216, c1_i32_134⟩
def k0_off15 (k0_t11 : Fin k0_t11_loop.trips) : Fin 1 → Nat :=
  let c0_i32_492 : BitVec 32 := 0#32
  let c0_i32_132 : BitVec 32 := 0#32
  let c1_i32_134 : BitVec 32 := 1#32
  let arg28 : BitVec 32 := Scf.iv c0_i32_132 c1_i32_134 k0_t11
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t12_loop : Scf.Loop 32 :=
  let c0_i32_145 : BitVec 32 := 0#32
  let c1024_i32_146 : BitVec 32 := 1024#32
  let v235 : BitVec 32 := Scalar.addi c0_i32_145 c1024_i32_146
  let c1_i32_147 : BitVec 32 := 1#32
  ⟨c0_i32_145, v235, c1_i32_147⟩
def k0_off16 (k0_t12 : Fin k0_t12_loop.trips) : Fin 1 → Nat :=
  let c0_i32_492 : BitVec 32 := 0#32
  let c0_i32_145 : BitVec 32 := 0#32
  let c1_i32_147 : BitVec 32 := 1#32
  let arg28 : BitVec 32 := Scf.iv c0_i32_145 c1_i32_147 k0_t12
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t13_loop : Scf.Loop 32 :=
  let c0_i32_158 : BitVec 32 := 0#32
  let c1024_i32_159 : BitVec 32 := 1024#32
  let v254 : BitVec 32 := Scalar.addi c0_i32_158 c1024_i32_159
  let c1_i32_160 : BitVec 32 := 1#32
  ⟨c0_i32_158, v254, c1_i32_160⟩
def k0_off17 (k0_t13 : Fin k0_t13_loop.trips) : Fin 1 → Nat :=
  let c0_i32_492 : BitVec 32 := 0#32
  let c0_i32_158 : BitVec 32 := 0#32
  let c1_i32_160 : BitVec 32 := 1#32
  let arg28 : BitVec 32 := Scf.iv c0_i32_158 c1_i32_160 k0_t13
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t14_loop : Scf.Loop 32 :=
  let c0_i32_171 : BitVec 32 := 0#32
  let c1024_i32_172 : BitVec 32 := 1024#32
  let v273 : BitVec 32 := Scalar.addi c0_i32_171 c1024_i32_172
  let c1_i32_173 : BitVec 32 := 1#32
  ⟨c0_i32_171, v273, c1_i32_173⟩
def k0_off18 (k0_t14 : Fin k0_t14_loop.trips) : Fin 1 → Nat :=
  let c0_i32_492 : BitVec 32 := 0#32
  let c0_i32_171 : BitVec 32 := 0#32
  let c1_i32_173 : BitVec 32 := 1#32
  let arg28 : BitVec 32 := Scf.iv c0_i32_171 c1_i32_173 k0_t14
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t15_loop : Scf.Loop 32 :=
  let c0_i32_184 : BitVec 32 := 0#32
  let c1024_i32_185 : BitVec 32 := 1024#32
  let v292 : BitVec 32 := Scalar.addi c0_i32_184 c1024_i32_185
  let c1_i32_186 : BitVec 32 := 1#32
  ⟨c0_i32_184, v292, c1_i32_186⟩
def k0_off19 (k0_t15 : Fin k0_t15_loop.trips) : Fin 1 → Nat :=
  let c0_i32_492 : BitVec 32 := 0#32
  let c0_i32_184 : BitVec 32 := 0#32
  let c1_i32_186 : BitVec 32 := 1#32
  let arg28 : BitVec 32 := Scf.iv c0_i32_184 c1_i32_186 k0_t15
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t16_loop : Scf.Loop 32 :=
  let c0_i32_197 : BitVec 32 := 0#32
  let c1024_i32_198 : BitVec 32 := 1024#32
  let v311 : BitVec 32 := Scalar.addi c0_i32_197 c1024_i32_198
  let c1_i32_199 : BitVec 32 := 1#32
  ⟨c0_i32_197, v311, c1_i32_199⟩
def k0_off20 (k0_t16 : Fin k0_t16_loop.trips) : Fin 1 → Nat :=
  let c0_i32_492 : BitVec 32 := 0#32
  let c0_i32_197 : BitVec 32 := 0#32
  let c1_i32_199 : BitVec 32 := 1#32
  let arg28 : BitVec 32 := Scf.iv c0_i32_197 c1_i32_199 k0_t16
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t17_loop : Scf.Loop 32 :=
  let c0_i32_210 : BitVec 32 := 0#32
  let c1024_i32_211 : BitVec 32 := 1024#32
  let v330 : BitVec 32 := Scalar.addi c0_i32_210 c1024_i32_211
  let c1_i32_212 : BitVec 32 := 1#32
  ⟨c0_i32_210, v330, c1_i32_212⟩
def k0_off21 (k0_t17 : Fin k0_t17_loop.trips) : Fin 1 → Nat :=
  let c0_i32_492 : BitVec 32 := 0#32
  let c0_i32_210 : BitVec 32 := 0#32
  let c1_i32_212 : BitVec 32 := 1#32
  let arg28 : BitVec 32 := Scf.iv c0_i32_210 c1_i32_212 k0_t17
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t18_loop : Scf.Loop 32 :=
  let c0_i32_223 : BitVec 32 := 0#32
  let c1024_i32_224 : BitVec 32 := 1024#32
  let v349 : BitVec 32 := Scalar.addi c0_i32_223 c1024_i32_224
  let c1_i32_225 : BitVec 32 := 1#32
  ⟨c0_i32_223, v349, c1_i32_225⟩
def k0_off22 (k0_t18 : Fin k0_t18_loop.trips) : Fin 1 → Nat :=
  let c0_i32_492 : BitVec 32 := 0#32
  let c0_i32_223 : BitVec 32 := 0#32
  let c1_i32_225 : BitVec 32 := 1#32
  let arg28 : BitVec 32 := Scf.iv c0_i32_223 c1_i32_225 k0_t18
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t19_loop : Scf.Loop 32 :=
  let c0_i32_236 : BitVec 32 := 0#32
  let c1024_i32_237 : BitVec 32 := 1024#32
  let v368 : BitVec 32 := Scalar.addi c0_i32_236 c1024_i32_237
  let c1_i32_238 : BitVec 32 := 1#32
  ⟨c0_i32_236, v368, c1_i32_238⟩
def k0_off23 (k0_t19 : Fin k0_t19_loop.trips) : Fin 1 → Nat :=
  let c0_i32_492 : BitVec 32 := 0#32
  let c0_i32_236 : BitVec 32 := 0#32
  let c1_i32_238 : BitVec 32 := 1#32
  let arg28 : BitVec 32 := Scf.iv c0_i32_236 c1_i32_238 k0_t19
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t20_loop : Scf.Loop 32 :=
  let c0_i32_249 : BitVec 32 := 0#32
  let c1024_i32_250 : BitVec 32 := 1024#32
  let v387 : BitVec 32 := Scalar.addi c0_i32_249 c1024_i32_250
  let c1_i32_251 : BitVec 32 := 1#32
  ⟨c0_i32_249, v387, c1_i32_251⟩
def k0_off24 (k0_t20 : Fin k0_t20_loop.trips) : Fin 1 → Nat :=
  let c0_i32_492 : BitVec 32 := 0#32
  let c0_i32_249 : BitVec 32 := 0#32
  let c1_i32_251 : BitVec 32 := 1#32
  let arg28 : BitVec 32 := Scf.iv c0_i32_249 c1_i32_251 k0_t20
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t21_loop : Scf.Loop 32 :=
  let c0_i32_262 : BitVec 32 := 0#32
  let c1024_i32_263 : BitVec 32 := 1024#32
  let v406 : BitVec 32 := Scalar.addi c0_i32_262 c1024_i32_263
  let c1_i32_264 : BitVec 32 := 1#32
  ⟨c0_i32_262, v406, c1_i32_264⟩
def k0_off25 (k0_t21 : Fin k0_t21_loop.trips) : Fin 1 → Nat :=
  let c0_i32_492 : BitVec 32 := 0#32
  let c0_i32_262 : BitVec 32 := 0#32
  let c1_i32_264 : BitVec 32 := 1#32
  let arg28 : BitVec 32 := Scf.iv c0_i32_262 c1_i32_264 k0_t21
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t22_loop : Scf.Loop 32 :=
  let c0_i32_275 : BitVec 32 := 0#32
  let c1024_i32_276 : BitVec 32 := 1024#32
  let v425 : BitVec 32 := Scalar.addi c0_i32_275 c1024_i32_276
  let c1_i32_277 : BitVec 32 := 1#32
  ⟨c0_i32_275, v425, c1_i32_277⟩
def k0_off26 (k0_t22 : Fin k0_t22_loop.trips) : Fin 1 → Nat :=
  let c0_i32_492 : BitVec 32 := 0#32
  let c0_i32_275 : BitVec 32 := 0#32
  let c1_i32_277 : BitVec 32 := 1#32
  let arg28 : BitVec 32 := Scf.iv c0_i32_275 c1_i32_277 k0_t22
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t23_loop : Scf.Loop 32 :=
  let c0_i32_288 : BitVec 32 := 0#32
  let c1024_i32_289 : BitVec 32 := 1024#32
  let v444 : BitVec 32 := Scalar.addi c0_i32_288 c1024_i32_289
  let c1_i32_290 : BitVec 32 := 1#32
  ⟨c0_i32_288, v444, c1_i32_290⟩
def k0_off27 (k0_t23 : Fin k0_t23_loop.trips) : Fin 1 → Nat :=
  let c0_i32_492 : BitVec 32 := 0#32
  let c0_i32_288 : BitVec 32 := 0#32
  let c1_i32_290 : BitVec 32 := 1#32
  let arg28 : BitVec 32 := Scf.iv c0_i32_288 c1_i32_290 k0_t23
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t24_loop : Scf.Loop 32 :=
  let c0_i32_301 : BitVec 32 := 0#32
  let c1024_i32_302 : BitVec 32 := 1024#32
  let v463 : BitVec 32 := Scalar.addi c0_i32_301 c1024_i32_302
  let c1_i32_303 : BitVec 32 := 1#32
  ⟨c0_i32_301, v463, c1_i32_303⟩
def k0_off28 (k0_t24 : Fin k0_t24_loop.trips) : Fin 1 → Nat :=
  let c0_i32_492 : BitVec 32 := 0#32
  let c0_i32_301 : BitVec 32 := 0#32
  let c1_i32_303 : BitVec 32 := 1#32
  let arg28 : BitVec 32 := Scf.iv c0_i32_301 c1_i32_303 k0_t24
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t25_loop : Scf.Loop 32 :=
  let c0_i32_314 : BitVec 32 := 0#32
  let c1024_i32_315 : BitVec 32 := 1024#32
  let v482 : BitVec 32 := Scalar.addi c0_i32_314 c1024_i32_315
  let c1_i32_316 : BitVec 32 := 1#32
  ⟨c0_i32_314, v482, c1_i32_316⟩
def k0_off29 (k0_t25 : Fin k0_t25_loop.trips) : Fin 1 → Nat :=
  let c0_i32_492 : BitVec 32 := 0#32
  let c0_i32_314 : BitVec 32 := 0#32
  let c1_i32_316 : BitVec 32 := 1#32
  let arg28 : BitVec 32 := Scf.iv c0_i32_314 c1_i32_316 k0_t25
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t26_loop : Scf.Loop 32 :=
  let c0_i32_327 : BitVec 32 := 0#32
  let c1024_i32_328 : BitVec 32 := 1024#32
  let v501 : BitVec 32 := Scalar.addi c0_i32_327 c1024_i32_328
  let c1_i32_329 : BitVec 32 := 1#32
  ⟨c0_i32_327, v501, c1_i32_329⟩
def k0_off30 (k0_t26 : Fin k0_t26_loop.trips) : Fin 1 → Nat :=
  let c0_i32_492 : BitVec 32 := 0#32
  let c0_i32_327 : BitVec 32 := 0#32
  let c1_i32_329 : BitVec 32 := 1#32
  let arg28 : BitVec 32 := Scf.iv c0_i32_327 c1_i32_329 k0_t26
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t27_loop : Scf.Loop 32 :=
  let c0_i32_340 : BitVec 32 := 0#32
  let c1024_i32_341 : BitVec 32 := 1024#32
  let v520 : BitVec 32 := Scalar.addi c0_i32_340 c1024_i32_341
  let c1_i32_342 : BitVec 32 := 1#32
  ⟨c0_i32_340, v520, c1_i32_342⟩
def k0_off31 (k0_t27 : Fin k0_t27_loop.trips) : Fin 1 → Nat :=
  let c0_i32_492 : BitVec 32 := 0#32
  let c0_i32_340 : BitVec 32 := 0#32
  let c1_i32_342 : BitVec 32 := 1#32
  let arg28 : BitVec 32 := Scf.iv c0_i32_340 c1_i32_342 k0_t27
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t28_loop : Scf.Loop 32 :=
  let c0_i32_353 : BitVec 32 := 0#32
  let c1024_i32_354 : BitVec 32 := 1024#32
  let v539 : BitVec 32 := Scalar.addi c0_i32_353 c1024_i32_354
  let c1_i32_355 : BitVec 32 := 1#32
  ⟨c0_i32_353, v539, c1_i32_355⟩
def k0_off32 (k0_t28 : Fin k0_t28_loop.trips) : Fin 1 → Nat :=
  let c0_i32_492 : BitVec 32 := 0#32
  let c0_i32_353 : BitVec 32 := 0#32
  let c1_i32_355 : BitVec 32 := 1#32
  let arg28 : BitVec 32 := Scf.iv c0_i32_353 c1_i32_355 k0_t28
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t29_loop : Scf.Loop 32 :=
  let c0_i32_366 : BitVec 32 := 0#32
  let c1024_i32_367 : BitVec 32 := 1024#32
  let v558 : BitVec 32 := Scalar.addi c0_i32_366 c1024_i32_367
  let c1_i32_368 : BitVec 32 := 1#32
  ⟨c0_i32_366, v558, c1_i32_368⟩
def k0_off33 (k0_t29 : Fin k0_t29_loop.trips) : Fin 1 → Nat :=
  let c0_i32_492 : BitVec 32 := 0#32
  let c0_i32_366 : BitVec 32 := 0#32
  let c1_i32_368 : BitVec 32 := 1#32
  let arg28 : BitVec 32 := Scf.iv c0_i32_366 c1_i32_368 k0_t29
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t30_loop : Scf.Loop 32 :=
  let c0_i32_379 : BitVec 32 := 0#32
  let c1024_i32_380 : BitVec 32 := 1024#32
  let v577 : BitVec 32 := Scalar.addi c0_i32_379 c1024_i32_380
  let c1_i32_381 : BitVec 32 := 1#32
  ⟨c0_i32_379, v577, c1_i32_381⟩
def k0_off34 (k0_t30 : Fin k0_t30_loop.trips) : Fin 1 → Nat :=
  let c0_i32_492 : BitVec 32 := 0#32
  let c0_i32_379 : BitVec 32 := 0#32
  let c1_i32_381 : BitVec 32 := 1#32
  let arg28 : BitVec 32 := Scf.iv c0_i32_379 c1_i32_381 k0_t30
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t31_loop : Scf.Loop 32 :=
  let c0_i32_392 : BitVec 32 := 0#32
  let c1024_i32_393 : BitVec 32 := 1024#32
  let v596 : BitVec 32 := Scalar.addi c0_i32_392 c1024_i32_393
  let c1_i32_394 : BitVec 32 := 1#32
  ⟨c0_i32_392, v596, c1_i32_394⟩
def k0_off35 (k0_t31 : Fin k0_t31_loop.trips) : Fin 1 → Nat :=
  let c0_i32_492 : BitVec 32 := 0#32
  let c0_i32_392 : BitVec 32 := 0#32
  let c1_i32_394 : BitVec 32 := 1#32
  let arg28 : BitVec 32 := Scf.iv c0_i32_392 c1_i32_394 k0_t31
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t32_loop : Scf.Loop 32 :=
  let c0_i32_405 : BitVec 32 := 0#32
  let c1024_i32_406 : BitVec 32 := 1024#32
  let v615 : BitVec 32 := Scalar.addi c0_i32_405 c1024_i32_406
  let c1_i32_407 : BitVec 32 := 1#32
  ⟨c0_i32_405, v615, c1_i32_407⟩
def k0_off36 (k0_t32 : Fin k0_t32_loop.trips) : Fin 1 → Nat :=
  let c0_i32_492 : BitVec 32 := 0#32
  let c0_i32_405 : BitVec 32 := 0#32
  let c1_i32_407 : BitVec 32 := 1#32
  let arg28 : BitVec 32 := Scf.iv c0_i32_405 c1_i32_407 k0_t32
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t33_loop : Scf.Loop 32 :=
  let c0_i32_418 : BitVec 32 := 0#32
  let c1024_i32_419 : BitVec 32 := 1024#32
  let v634 : BitVec 32 := Scalar.addi c0_i32_418 c1024_i32_419
  let c1_i32_420 : BitVec 32 := 1#32
  ⟨c0_i32_418, v634, c1_i32_420⟩
def k0_off37 (k0_t33 : Fin k0_t33_loop.trips) : Fin 1 → Nat :=
  let c0_i32_492 : BitVec 32 := 0#32
  let c0_i32_418 : BitVec 32 := 0#32
  let c1_i32_420 : BitVec 32 := 1#32
  let arg28 : BitVec 32 := Scf.iv c0_i32_418 c1_i32_420 k0_t33
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t34_loop : Scf.Loop 32 :=
  let c0_i32_431 : BitVec 32 := 0#32
  let c1024_i32_432 : BitVec 32 := 1024#32
  let v653 : BitVec 32 := Scalar.addi c0_i32_431 c1024_i32_432
  let c1_i32_433 : BitVec 32 := 1#32
  ⟨c0_i32_431, v653, c1_i32_433⟩
def k0_off38 (k0_t34 : Fin k0_t34_loop.trips) : Fin 1 → Nat :=
  let c0_i32_492 : BitVec 32 := 0#32
  let c0_i32_431 : BitVec 32 := 0#32
  let c1_i32_433 : BitVec 32 := 1#32
  let arg28 : BitVec 32 := Scf.iv c0_i32_431 c1_i32_433 k0_t34
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t35_loop : Scf.Loop 32 :=
  let c0_i32_444 : BitVec 32 := 0#32
  let c512_i32_445 : BitVec 32 := 512#32
  let v672 : BitVec 32 := Scalar.addi c0_i32_444 c512_i32_445
  let c1_i32_446 : BitVec 32 := 1#32
  ⟨c0_i32_444, v672, c1_i32_446⟩
def k0_off39 (k0_t35 : Fin k0_t35_loop.trips) : Fin 1 → Nat :=
  let c0_i32_492 : BitVec 32 := 0#32
  let c0_i32_444 : BitVec 32 := 0#32
  let c1_i32_446 : BitVec 32 := 1#32
  let arg28 : BitVec 32 := Scf.iv c0_i32_444 c1_i32_446 k0_t35
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t36_loop : Scf.Loop 32 :=
  let c0_i32_457 : BitVec 32 := 0#32
  let c256_i32_458 : BitVec 32 := 256#32
  let v691 : BitVec 32 := Scalar.addi c0_i32_457 c256_i32_458
  let c1_i32_459 : BitVec 32 := 1#32
  ⟨c0_i32_457, v691, c1_i32_459⟩
def k0_off40 (k0_t36 : Fin k0_t36_loop.trips) : Fin 1 → Nat :=
  let c0_i32_492 : BitVec 32 := 0#32
  let c0_i32_457 : BitVec 32 := 0#32
  let c1_i32_459 : BitVec 32 := 1#32
  let arg28 : BitVec 32 := Scf.iv c0_i32_457 c1_i32_459 k0_t36
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t37_loop : Scf.Loop 32 :=
  let c0_i32_468 : BitVec 32 := 0#32
  let c128_i32_469 : BitVec 32 := 128#32
  let v705 : BitVec 32 := Scalar.addi c0_i32_468 c128_i32_469
  let c1_i32_470 : BitVec 32 := 1#32
  ⟨c0_i32_468, v705, c1_i32_470⟩
def k0_off41 (k0_t37 : Fin k0_t37_loop.trips) : Fin 1 → Nat :=
  let c0_i32_492 : BitVec 32 := 0#32
  let c0_i32_468 : BitVec 32 := 0#32
  let c1_i32_470 : BitVec 32 := 1#32
  let arg28 : BitVec 32 := Scf.iv c0_i32_468 c1_i32_470 k0_t37
  let c16_i32 : BitVec 32 := 16#32
  let v737 : BitVec 32 := Scalar.muli arg28 c16_i32
  let v738 : BitVec 32 := Scalar.addi c0_i32_492 v737
  let v739 : Index := Scalar.indexCast v738
  ![v739.toNat]
@[reducible] def k0_t38_loop : Scf.Loop 32 :=
  let c0_i32_479 : BitVec 32 := 0#32
  let c128_i32_480 : BitVec 32 := 128#32
  let v719 : BitVec 32 := Scalar.addi c0_i32_479 c128_i32_480
  let c1_i32_481 : BitVec 32 := 1#32
  ⟨c0_i32_479, v719, c1_i32_481⟩
def k0_off42 (k0_t38 : Fin k0_t38_loop.trips) : Fin 1 → Nat :=
  let c0_i32_492 : BitVec 32 := 0#32
  let c0_i32_479 : BitVec 32 := 0#32
  let c1_i32_481 : BitVec 32 := 1#32
  let arg28 : BitVec 32 := Scf.iv c0_i32_479 c1_i32_481 k0_t38
  let c16_i32 : BitVec 32 := 16#32
  let v737 : BitVec 32 := Scalar.muli arg28 c16_i32
  let v738 : BitVec 32 := Scalar.addi c0_i32_492 v737
  let v739 : Index := Scalar.indexCast v738
  ![v739.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16777216 : Shape := ⟨1, ![16777216]⟩
abbrev S3 : Shape := ⟨1, ![3]⟩
abbrev S16777216x1 : Shape := ⟨2, ![16777216, 1]⟩
abbrev S1x3 : Shape := ⟨2, ![1, 3]⟩
abbrev S16777216x3 : Shape := ⟨2, ![16777216, 3]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S3, .f32⟩
  | .hbm, ⟨2, _⟩ => ⟨S16777216x1, .f32⟩
  | .hbm, ⟨3, _⟩ => ⟨S1x3, .f32⟩
  | .hbm, ⟨4, _⟩ => ⟨S16777216x3, .f32⟩
  | .hbm, ⟨5, _⟩ => ⟨S16777216x3, .f32⟩
  | .hbm, ⟨6, _⟩ => ⟨S16777216x3, .i1⟩
  | .hbm, ⟨7, _⟩ => ⟨S16777216x3, .i32⟩
  | .hbm, ⟨8, _⟩ => ⟨S_, .i32⟩
  | .hbm, ⟨9, _⟩ => ⟨S16777216, .i32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Bucket.Chunks.lean ====
/-
  The kernel's body as a list of commands. A tile works through 38 chunks of its 524288 values; what it does for a
  chunk — start the copy in, wait for it, run the chunk's loop, start the copy out, wait for that — is the same text at
  every chunk up to the chunk's size, its offset, its slot (one of three staging buffers each way) and its semaphore.
  Here those are functions of the chunk's number, each step is a command over the number, and the printed parts are
  shown to be runs of lists of commands, so that the proof treats one chunk, at a symbolic number.
-/
module

public import proofs.«01_k».proof.Proof.Gen.KernelIdeal
public import proofs.«01_k».proof.Proof.Gen.KernelIdeal.Skeleton

@[expose] public section

noncomputable section

namespace Cert.Proof.Bucket

open Cert.KernelIdeal Cert.KernelIdeal.Gen
open Idealize.ShloMosaic Idealize.SL.Sem

variable {F : FTy → Type} [FloatOps F]

/-! ## A chunk's size, offset, slot and semaphore -/

/-- The one-axis shape of `n` elements. -/
abbrev Sh (n : ℕ) : Shape := ⟨1, ![n]⟩

/-- The number of values in chunk `k`. -/
def sz (k : Fin 38) : ℕ :=
  if k.val < 2 then 2048 else if k.val < 3 then 4096 else if k.val < 4 then 8192 else if k.val < 34 then 16384
  else if k.val < 35 then 8192 else if k.val < 36 then 4096 else 2048

/-- Where chunk `k` starts in the tile's block. -/
def off (k : Fin 38) : ℕ :=
  if k.val < 2 then 2048 * k.val else if k.val < 3 then 4096 else if k.val < 34 then (if k.val < 4 then 8192 else 16384 * (k.val - 3))
  else if k.val < 35 then 507904 else if k.val < 36 then 516096 else if k.val < 37 then 520192 else 522240

/-- The slot chunk `k` is staged in. -/
def slot (k : Fin 38) : Fin 3 := ⟨k.val % 3, Nat.mod_lt _ (by decide)⟩

/-- The number, among the eight semaphores of one direction, of the one chunk `k` uses: one per slot and size. -/
def kind (k : Fin 38) : Fin 8 :=
  if k.val < 4 then (if k.val < 2 then (if k.val < 1 then 0 else 3) else (if k.val < 3 then 6 else 1))
  else if k.val < 34 then (if k.val % 3 = 0 then 2 else if k.val % 3 = 1 then 5 else 7)
  else if k.val < 36 then (if k.val < 35 then 4 else 6) else (if k.val < 37 then 0 else 3)

/-- The semaphore of chunk `k`'s copy in, and of its copy out. -/
def inSem (k : Fin 38) : DmaSem sig := ⟨(kind k).val, Nat.lt_of_lt_of_le (kind k).isLt (by decide)⟩
/-- The semaphore of chunk `k`'s copy out. -/
def outSem (k : Fin 38) : DmaSem sig := ⟨8 + (kind k).val, Nat.lt_of_lt_of_le (Nat.add_lt_add_left (kind k).isLt 8) (by decide)⟩

/-- The operands and the staging buffers. -/
abbrev bV : Memref sig .scVector .hbm S16 .f32 := Memref.whole main_v0_scv
abbrev xV : Memref sig .scVector .hbm S16777216 .f32 := Memref.whole main_arg0_scv
abbrev oV : Memref sig .scVector .hbm S16777216 .i32 := Memref.whole main_v1_scv
abbrev bB : Memref sig .scVector .vmem S16 .f32 := Memref.whole cc0_scratch0
/-- The input's staging buffer of a slot. -/
def xB : Fin 3 → Memref sig .scVector .vmem S16384 .f32
  | 0 => Memref.whole cc0_scratch1
  | 1 => Memref.whole cc0_scratch2
  | 2 => Memref.whole cc0_scratch3
/-- The result's staging buffer of a slot. -/
def oB : Fin 3 → Memref sig .scVector .vmem S16384 .i32
  | 0 => Memref.whole cc0_scratch4
  | 1 => Memref.whole cc0_scratch5
  | 2 => Memref.whole cc0_scratch6

/-- A chunk fits a staging buffer. -/
theorem sz_le : ∀ k : Fin 38, sz k ≤ 16384 := by decide
/-- A chunk is a whole number of groups of sixteen. -/
theorem sz_mod : ∀ k : Fin 38, 16 * (sz k / 16) = sz k := by decide
/-- No chunk is empty. -/
theorem sz_pos : ∀ k : Fin 38, 0 < sz k := by decide
/-- A chunk lies within the tile's block. -/
theorem off_sz_le : ∀ k : Fin 38, off k + sz k ≤ 524288 := by decide

/-- Where tile `i`'s block of 524288 values starts. -/
def base (i : grid0.Coords) : ℕ := (2 * (i 1).val + (i 0).val) * 524288

/-- The last block starts at 31 blocks' length. -/
theorem base_le (i : grid0.Coords) : base i ≤ 31 * 524288 := by
  have h0 : (i 0).val < 2 := (i 0).isLt
  have h1 : (i 1).val < 16 := (i 1).isLt
  unfold base; omega

/-- The printed offset of chunk `k` of tile `i` is the sum of the two starts. -/
theorem off_eq (i : grid0.Coords) (k : Fin 38) : k0_off6 i (BitVec.ofNat 32 (off k)) = ![base i + off k] := by
  have h0 : (i 0).val < 2 := (i 0).isLt
  have h1 : (i 1).val < 16 := (i 1).isLt
  have h2 := off_sz_le k
  unfold k0_off6 base
  simp only [Scalar.muli, Scalar.addi, IntOp.muli, IntOp.addi]
  congr 1
  simp only [BitVec.toNat_add, BitVec.toNat_mul, BitVec.toNat_ofNat]
  omega

/-- Chunk `k` of a tile lies within the whole array. -/
theorem off_inb (i : grid0.Coords) (k : Fin 38) (a : Fin S16777216.rank) :
    k0_off6 i (BitVec.ofNat 32 (off k)) a + (Sh (sz k)).size a ≤ S16777216.size a := by
  have h := base_le i; have h2 := off_sz_le k
  match a with
  | ⟨0, _⟩ =>
    rw [off_eq]
    show base i + off k + sz k ≤ 16777216
    omega

/-- A chunk's prefix lies within its staging buffer. -/
theorem pre_inb (k : Fin 38) (a : Fin S16384.rank) : (![0] : Fin 1 → ℕ) a + (Sh (sz k)).size a ≤ S16384.size a := by
  match a with
  | ⟨0, _⟩ =>
    show 0 + sz k ≤ 16384
    have := sz_le k; omega

/-- Chunk `k`'s rectangle in the arrays, and the front of a staging buffer it fills. -/
abbrev hRect (i : grid0.Coords) (k : Fin 38) : Rect S16777216 :=
  Rect.unit (s := S16777216) (k0_off6 i (BitVec.ofNat 32 (off k))) (Sh (sz k)).size (off_inb i k)
abbrev vRect (k : Fin 38) : Rect S16384 := Rect.unit (s := S16384) ![0] (Sh (sz k)).size (pre_inb k)

/-- Chunk `k` of the input, of the result, and of the staging buffers of its slot. -/
abbrev xH (i : grid0.Coords) (k : Fin 38) : Memref sig .scVector .hbm (Sh (sz k)) .f32 := xV.slice (hRect i k) (fun _ => rfl)
abbrev oH (i : grid0.Coords) (k : Fin 38) : Memref sig .scVector .hbm (Sh (sz k)) .i32 := oV.slice (hRect i k) (fun _ => rfl)
abbrev xS (k : Fin 38) : Memref sig .scVector .vmem (Sh (sz k)) .f32 := (xB (slot k)).slice (vRect k) (fun _ => rfl)
abbrev oS (k : Fin 38) : Memref sig .scVector .vmem (Sh (sz k)) .i32 := (oB (slot k)).slice (vRect k) (fun _ => rfl)

/-! ## A chunk's loop -/

/-- The loop's operands: a trip per group of 16 values. -/
abbrev lp (k : Fin 38) : Scf.Loop 32 := ⟨0#32, Scalar.addi 0#32 (BitVec.ofNat 32 (sz k / 16)), 1#32⟩

/-- Chunk `k`'s loop is well formed. -/
theorem lp_ok : ∀ k : Fin 38, (lp k).OK := by decide
/-- It makes a trip for each group of sixteen. -/
theorem lp_trips : ∀ k : Fin 38, (lp k).trips = sz k / 16 := by decide

/-- The offset of trip `t`'s group, as printed, -/
abbrev tOff (t : ℕ) : Fin 1 → ℕ :=
  ![(Scalar.indexCast (Scalar.addi 0#32 (Scalar.muli (Scf.iv 0#32 1#32 t) 16#32))).toNat]

/-- is `16 * t`. -/
theorem tOff_eq {t : ℕ} (ht : t < 1024) : tOff t = ![16 * t] := by
  unfold tOff
  congr 1
  simp only [Scalar.muli, Scalar.addi, Scalar.indexCast, IntOp.muli, IntOp.addi, Scf.iv]
  simp [BitVec.toNat_add, BitVec.toNat_mul, BitVec.toNat_ofNat, BitVec.toNat_setWidth, BitVec.toNat_signExtend]
  omega

/-- A trip's group lies within the chunk. -/
theorem t_lt {k : Fin 38} (t : Fin (lp k).trips) : 16 * t.val + 16 ≤ sz k := by
  have h : t.val < sz k / 16 := lp_trips k ▸ t.isLt
  have := sz_mod k; omega

/-- A trip's group lies within the staging buffer. -/
theorem tOff_inb {k : Fin 38} (t : Fin (lp k).trips) (a : Fin S16384.rank) : tOff t.val a + S16.size a ≤ S16384.size a := by
  have h := t_lt t; have h' := sz_le k
  match a with
  | ⟨0, _⟩ =>
    rw [tOff_eq (by omega)]
    show 16 * t.val + 16 ≤ 16384
    omega

/-- The rectangle of trip `t`'s group. -/
abbrev tRect {k : Fin 38} (t : Fin (lp k).trips) : Rect S16384 := Rect.unit (s := S16384) (tOff t.val) S16.size (tOff_inb t)

/-- The programs of tile `i`. -/
abbrev PT (F : FTy → Type) [FloatOps F] (i : grid0.Coords) : Type → Type _ :=
  Prog (TpuEff nD τ sig (Elt F) Λ₀ (.scVector ((i 0).castLE hcore0) ((i 1).castLE hsub0)))

variable (i : grid0.Coords) (b0 b1 b2 : F .f32) (v1 v2 v3 v4 : IVec S16 32)

/-- One trip of chunk `k`'s loop: load a group, compare and select, store the result's group (which is loaded first and
    not used). -/
def tripBody (k : Fin 38) (t : Fin (lp k).trips) (_ : Unit) : PT F i Unit := do
  let x : Vec F S16 .f32 ← Prog.lift (.load (xB (slot k)) (tRect t).toLoadRect (View.loadsAt_vmem h_S16))
  let _ : Vec F S16 .i32 ← Prog.lift (.load (oB (slot k)) (tRect t).toLoadRect (View.loadsAt_vmem h_S16))
  Prog.lift (.store (oB (slot k)) (tRect t) (k0_pay9 b0 b1 b2 v1 v2 v3 v4 x) Finset.univ (View.stores_vmem_bits_univ h_S16 rfl) (.inl rfl))
  pure ⟨⟩

/-! ## Commands -/

/-- What a tile does for a chunk, a step at a time. -/
inductive Cmd
  | inStart (k : Fin 38)
  | inWait (k : Fin 38)
  | loop (k : Fin 38)
  | outStart (k : Fin 38)
  | outWait (k : Fin 38)

/-- Start chunk `k`'s copy in, and wait for it. -/
def inStart (k : Fin 38) : PT F i PUnit :=
  Prog.lift (.enqueueDma (xH i k) (.here (xS k)) (.dma (inSem k)) (View.wordExact_bits rfl) (View.wordExact_bits rfl) ⟨Or.inl rfl, trivial⟩)
/-- Wait for chunk `k`'s copy in. -/
def inWait (k : Fin 38) : PT F i PUnit :=
  Prog.lift (.waitDma2 (inSem k) (xH i k) (xS k) (View.wordExact_bits rfl) (View.wordExact_bits rfl))
/-- Start chunk `k`'s copy out, and wait for it. -/
def outStart (k : Fin 38) : PT F i PUnit :=
  Prog.lift (.enqueueDma (oS k) (.here (oH i k)) (.dma (outSem k)) (View.wordExact_bits rfl) (View.wordExact_bits rfl) ⟨Or.inl rfl, trivial⟩)
/-- Wait for chunk `k`'s copy out. -/
def outWait (k : Fin 38) : PT F i PUnit :=
  Prog.lift (.waitDma2 (outSem k) (oS k) (oH i k) (View.wordExact_bits rfl) (View.wordExact_bits rfl))
/-- Run chunk `k`'s loop. -/
def loop (k : Fin 38) : PT F i PUnit := Scf.Loop.for (lp k) (lp_ok k) ⟨⟩ (tripBody i b0 b1 b2 v1 v2 v3 v4 k)

/-- A command's program. -/
def exec : Cmd → PT F i PUnit
  | .inStart k => inStart i k
  | .inWait k => inWait i k
  | .loop k => loop i b0 b1 b2 v1 v2 v3 v4 k
  | .outStart k => outStart i k
  | .outWait k => outWait i k

/-- Commands in order. -/
def run : List Cmd → PT F i PUnit
  | [] => pure ⟨⟩
  | c :: cs => do
    exec i b0 b1 b2 v1 v2 v3 v4 c
    run cs

/-- Two lists of commands in a row run one after the other. -/
theorem run_append (l l' : List Cmd) :
    run i b0 b1 b2 v1 v2 v3 v4 (l ++ l') = (run i b0 b1 b2 v1 v2 v3 v4 l >>= fun _ => run i b0 b1 b2 v1 v2 v3 v4 l') := by
  induction l with
  | nil => rfl
  | cons c cs ih => simp only [List.cons_append, run, ih, bind_assoc]

/-! ## The printed parts as runs of commands -/

/-- A part of the body over the launch's operands, staging buffers and semaphores. -/
abbrev onArgs {α : Type _}
    (f : (a2 : Memref sig .scVector .hbm S16 .f32) → a2.IsWhole → (a3 : Memref sig .scVector .hbm S16777216 .f32) → a3.IsWhole →
      (a4 : Memref sig .scVector .hbm S16777216 .i32) → a4.IsWhole → (a5 : Memref sig .scVector .vmem S16 .f32) → a5.IsWhole →
      (a6 : Memref sig .scVector .vmem S16384 .f32) → a6.IsWhole → (a7 : Memref sig .scVector .vmem S16384 .f32) → a7.IsWhole →
      (a8 : Memref sig .scVector .vmem S16384 .f32) → a8.IsWhole → (a9 : Memref sig .scVector .vmem S16384 .i32) → a9.IsWhole →
      (a10 : Memref sig .scVector .vmem S16384 .i32) → a10.IsWhole → (a11 : Memref sig .scVector .vmem S16384 .i32) → a11.IsWhole →
      (a12 a13 a14 a15 a16 a17 a18 a19 a20 a21 a22 a23 a24 a25 a26 a27 r0 : DmaSems sig S_) → α) : α :=
  f (Memref.whole main_v0_scv) (Memref.isWhole_whole _) (Memref.whole main_arg0_scv) (Memref.isWhole_whole _)
    (Memref.whole main_v1_scv) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    cc0_scratch7 cc0_scratch8 cc0_scratch9 cc0_scratch10 cc0_scratch11 cc0_scratch12 cc0_scratch13 cc0_scratch14
    cc0_scratch15 cc0_scratch16 cc0_scratch17 cc0_scratch18 cc0_scratch19 cc0_scratch20 cc0_scratch21 cc0_scratch22 cc0_scoped0

/-- What comes before the chunks' steps: the first two copies in are started, the boundaries are copied in, waited for
    and loaded. -/
def prologue : PT F i (Vec F S16 .f32) := do
  inStart i 0
  inStart i 1
  Prog.lift (.enqueueDma bV (.here bB) (.dma cc0_scoped0.sem) ((Memref.isWhole_whole _).wordExact) ((Memref.isWhole_whole _).wordExact) ⟨Or.inl rfl, trivial⟩)
  Prog.lift (.waitDma2 cc0_scoped0.sem bV bB ((Memref.isWhole_whole _).wordExact) ((Memref.isWhole_whole _).wordExact))
  Prog.lift (.load bB (Rect.unit (s := S16) ![0] S16.size inb_S16_S16_0).toLoadRect (View.loadsAt_vmem h_S16))

/-- The commands of chunk `k`, in order. -/
def chunk (k : ℕ) : List Cmd :=
  (if h : k + 2 < 38 then [.inStart ⟨k + 2, h⟩] else []) ++
  (if h : k < 38 then
    .inWait ⟨k, h⟩ :: ((if 3 ≤ k then [.outWait ⟨k - 3, Nat.lt_of_le_of_lt (Nat.sub_le _ _) h⟩] else []) ++ [.loop ⟨k, h⟩, .outStart ⟨k, h⟩])
  else [])

/-- The commands of chunks `k`, `k + 1`, …, `n` chunks of them. -/
def chunks (k : ℕ) : ℕ → List Cmd
  | 0 => []
  | n + 1 => chunk k ++ chunks (k + 1) n

end Cert.Proof.Bucket

end
-- ==== Proof.Bucket.Steps.lean ====
/-
  A tile's steps, each proved once for a chunk at a symbolic number: starting a copy in or out (the staging buffer and
  the piece of the array go into the flight), waiting for it (they come back, the semaphore at zero), and the chunk's
  loop, by an invariant carrying the values: after `t` trips the first `16 * t` results of the chunk are there.
-/
module

public import proofs.«01_k».proof.Proof.Bucket.Chunks
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Bucket

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it, and the logic's parameters -/

abbrev ΛP : Labels := Pipeline.Sig Λ₀ (Fin 0) fun p => (pcfgs (F := F) p).Adm
abbrev K : SparseCore.Cfg τ sig (ΛP (F := F)) 1 := sc (F := F)

abbrev UH : Type := URounds (GSem nD τ sig) ℕ
abbrev UU : Type := UH × Counters

local notation "𝕄" => MT nD τ sig (HIx 1) (Elt F) ℕ UU ℕ

abbrev 𝒱₀ : Variants := Variants.none

variable [FloatOps F] (d : Dev nD) (L : grid0.Coords)

/-- The tile's thread, its semaphores' cells, and the arrays' places in memory. -/
abbrev cV (L : grid0.Coords) : Fin τ.nSC := (L 0).castLE hcore0
abbrev jV (L : grid0.Coords) : Fin τ.nSub := (L 1).castLE hsub0
abbrev thr : Thread nD τ := V d (cV L) (jV L)
abbrev cell (s : DmaSem sig) : GSem nD τ sig := (thr d L, .dma s)
abbrev xLoc : Loc nD τ sig := (SparseCore.T d).loc main_arg0
abbrev oLoc : Loc nD τ sig := (SparseCore.T d).loc main_v1

/-- Chunk `k`'s piece of the input, and of the result. -/
abbrev xPc (x : Buf (Elt F) (xLoc d)) (k : Fin 38) : sProp 𝕄 := (xH L k).view.loc (thr d L) ↦[(xH L k).view.set]{fullShare} x
abbrev oPc (o : Buf (Elt F) (oLoc d)) (k : Fin 38) : sProp 𝕄 := (oH L k).view.loc (thr d L) ↦[(oH L k).view.set]{fullShare} o

/-- A slot's two staging buffers, whole. -/
abbrev xBuf (s : Fin 3) (f : Buf (Elt F) ((xB s).view.loc (thr d L))) : sProp 𝕄 := (xB s).view.loc (thr d L) ↦{fullShare} f
abbrev oBuf (s : Fin 3) (f : Buf (Elt F) ((oB s).view.loc (thr d L))) : sProp 𝕄 := (oB s).view.loc (thr d L) ↦{fullShare} f

/-- What a chunk's input staging buffer reads once the chunk has come in. -/
abbrev XIn (x : Buf (Elt F) (xLoc d)) (k : Fin 38) (f : Buf (Elt F) ((xB (slot k)).view.loc (thr d L))) : Prop :=
  (xS k).view.read (Elt F) f = (xH L k).view.read (Elt F) x
/-- What its result staging buffer reads once its loop has run, over the result `o` aimed at. -/
abbrev OOut (o : Buf (Elt F) (oLoc d)) (k : Fin 38) (g : Buf (Elt F) ((oB (slot k)).view.loc (thr d L))) : Prop :=
  (oS k).view.read (Elt F) g = (oH L k).view.read (Elt F) o

/-- Chunk `k`'s copy in, under way: it brings the staging buffer holding the chunk, and the piece back. -/
abbrev InFl (x : Buf (Elt F) (xLoc d)) (k : Fin 38) : sProp 𝕄 :=
  Transfers.Flight countersEmb (thr d L) (.dma (inSem k)) (default : HIx 1) (xS k).view.dmaCredit
    iprop((∃ f, ⌜XIn d L x k f⌝ ∗ xBuf d L (slot k) f) ∗ xPc d L x k)

/-- Chunk `k`'s copy out, under way: it brings the piece of the result at the target, and the front of the staging
    buffer back; the rest of that buffer stays with the tile. -/
abbrev OutFl (o : Buf (Elt F) (oLoc d)) (k : Fin 38) : sProp 𝕄 :=
  iprop(∃ g : Buf (Elt F) ((oB (slot k)).view.loc (thr d L)),
    Transfers.Flight countersEmb (thr d L) (.dma (outSem k)) (default : HIx 1) (oH L k).view.dmaCredit
      iprop(oPc d L o k ∗ ((oS k).view.loc (thr d L) ↦[(oS k).view.set]{fullShare} g))
    ∗ ((oS k).view.loc (thr d L) ↦[Finset.univ \ (oS k).view.set]{fullShare} g))

/-- A chunk's shape has elements. -/
theorem sh_pos (k : Fin 38) : 0 < (Sh (sz k)).numel := Shape.numel_pos fun a => by
  match a with
  | ⟨0, _⟩ => exact sz_pos k

variable (x : Buf (Elt F) (xLoc d)) (o : Buf (Elt F) (oLoc d))

/-! ## The copies -/

/-- Starting chunk `k`'s copy in: the input's staging buffer, the chunk's piece and the copy's counter become the copy in flight. -/
theorem wp_inStart (k : Fin 38) (f : Buf (Elt F) ((xB (slot k)).view.loc (thr d L))) {Φ : PUnit → sProp 𝕄} :
    iprop(xBuf d L (slot k) f ∗ xPc d L x k ∗ semVal (cell d L (inSem k)) 0 ∗ (InFl d L x k -∗ Φ ⟨⟩))
      ⊢ wp frame (wpE (defs₀ (F := F)) 𝒱₀ (thr d L) none) Set.univ (inStart L k) Φ := by
  unfold inStart
  iintro ⟨Hb, Hx, Hs, HΦ⟩
  iapply (Transfers.wp_dmaLocal countersEmb 𝒱₀ (thr d L) none (default : HIx 1) (xS k).view.dmaCredit rfl
      (View.dmaCredit_pos _ (sh_pos k)) (Finset.subset_univ _)) $$ [Hb Hx Hs]
  · isplitl [Hx]; · iexact Hx
    isplitl [Hb]; · iexact Hb
    iexact Hs
  iintro Hfl
  rw [wp_ret]
  imodintro
  iapply HΦ
  iapply (Transfers.Flight_mono countersEmb (thr d L) ?_) $$ Hfl
  iintro ⟨Hb, Hx⟩
  isplitl [Hb]
  · iexists _
    isplitr
    swap; · iexact Hb
    ipureintro
    exact View.read_write_univ _ _
  · iexact Hx

/-- Starting chunk `k`'s copy out of a buffer that holds the chunk's results: the buffer, the result's piece and the counter become the copy in flight. -/
theorem wp_outStart (k : Fin 38) (g : Buf (Elt F) ((oB (slot k)).view.loc (thr d L))) (o' : Buf (Elt F) (oLoc d))
    (hg : OOut d L o k g) {Φ : PUnit → sProp 𝕄} :
    iprop(oBuf d L (slot k) g ∗ oPc d L o' k ∗ semVal (cell d L (outSem k)) 0 ∗ (OutFl d L o k -∗ Φ ⟨⟩))
      ⊢ wp frame (wpE (defs₀ (F := F)) 𝒱₀ (thr d L) none) Set.univ (outStart L k) Φ := by
  unfold outStart
  iintro ⟨Hb, Ho, Hs, HΦ⟩
  ihave Hb' := (pointsTo_split_subset (q := fullShare) (f := g) (S := Finset.univ) (Finset.subset_univ (oS k).view.set)).1 $$ Hb
  icases Hb' with ⟨Hb, Hr⟩
  iapply (Transfers.wp_dmaLocal countersEmb 𝒱₀ (thr d L) none (default : HIx 1) (oH L k).view.dmaCredit rfl
      (View.dmaCredit_pos _ (sh_pos k)) (Finset.Subset.refl _)) $$ [Hb Ho Hs]
  · isplitl [Hb]; · iexact Hb
    isplitl [Ho]; · iexact Ho
    iexact Hs
  iintro Hfl
  rw [wp_ret]
  imodintro
  iapply HΦ
  iexists g
  isplitl [Hfl]
  · iapply (Transfers.Flight_mono countersEmb (thr d L) ?_) $$ Hfl
    iintro ⟨Ho, Hb⟩
    isplitl [Ho]
    · iapply (Entails.of_eq (pointsTo_congr ?_)) $$ Ho
      intro i hi
      obtain ⟨y, -, rfl⟩ := Finset.mem_map.mp hi
      rw [View.write_emb_of_mem _ _ (Finset.mem_univ _)]
      have h := congrFun hg y
      exact h
    · iexact Hb
  · iexact Hr

/-! ## The waits -/

/-- What the tile may still owe, and the waits it has recorded: its own since `W`. -/
abbrev OW (O : CellTallies nD τ sig (HIx 1)) (W : Waits sig (HIx 1)) : sProp 𝕄 :=
  iprop(∃ W', ⌜∀ p ∈ W', p ∈ W ∨ p.2 = none⌝ ∗ owes (thr d L) O W')

/-- A wait for a copy in flight, from a tile that owes nothing below the wait. -/
theorem wp_wait {sp sp' : Space} {s s' : Shape} {e e' : EltTy} {sem : DmaSem sig} {src : Memref sig .scVector sp' s' e'}
    {dst : Memref sig .scVector sp s e} {hsrc : src.view.WordExact} {hdst : dst.view.WordExact} {D : sProp 𝕄}
    (O : CellTallies nD τ sig (HIx 1)) (W : Waits sig (HIx 1)) (hO : ∀ g, O g none = 0) {Φ : PUnit → sProp 𝕄} :
    iprop(levAts (K (F := F)).L (K (F := F)).lev ∗ Transfers.Flight countersEmb (thr d L) (.dma sem) (default : HIx 1) dst.view.dmaCredit D
        ∗ OW d L O W ∗ ((D ∗ semVal (cell d L sem) 0 ∗ OW d L O W) -∗ Φ ⟨⟩))
      ⊢ wp frame (wpE (defs₀ (F := F)) 𝒱₀ (thr d L) none) Set.univ (Prog.lift (.waitDma2 sem src dst hsrc hdst)) Φ := by
  iintro ⟨#Hlv, Hfl, ⟨%W', %hW, HO⟩, HΦ⟩
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (default : HIx 1) (rfl : dst.view.dmaCredit = _)) $$ [Hfl HO Hmw]
  · isplitl [Hfl]; · iexact Hfl
    isplitl [HO]; · iexact HO
    iapply (Transfers.MayWaits.elim (SemLoc.dma sem)) $$ Hmw
  iintro ⟨HD, Hs, HO⟩
  rw [wp_ret]
  imodintro
  iapply HΦ
  isplitl [HD]; · iexact HD
  isplitl [Hs]; · iexact Hs
  iexists _
  isplitr
  swap; · iexact HO
  ipureintro
  intro p hp
  rcases Finset.mem_insert.mp hp with hp | hp
  · exact .inr (hp ▸ rfl)
  · exact hW p hp

/-- Waiting for chunk `k`'s copy in: the staging buffer comes back holding the chunk's values, the piece and the counter as they were. -/
theorem wp_inWait (k : Fin 38) (O : CellTallies nD τ sig (HIx 1)) (W : Waits sig (HIx 1)) (hO : ∀ g, O g none = 0) {Φ : PUnit → sProp 𝕄} :
    iprop(levAts (K (F := F)).L (K (F := F)).lev ∗ InFl d L x k ∗ OW d L O W
        ∗ ((((∃ f, ⌜XIn d L x k f⌝ ∗ xBuf d L (slot k) f) ∗ xPc d L x k) ∗ semVal (cell d L (inSem k)) 0 ∗ OW d L O W) -∗ Φ ⟨⟩))
      ⊢ wp frame (wpE (defs₀ (F := F)) 𝒱₀ (thr d L) none) Set.univ (inWait L k) Φ := wp_wait d L O W hO

/-- Waiting for chunk `k`'s copy out: the piece comes back holding the results, with the staging buffer and the counter. -/
theorem wp_outWait (k : Fin 38) (O : CellTallies nD τ sig (HIx 1)) (W : Waits sig (HIx 1)) (hO : ∀ g, O g none = 0) {Φ : PUnit → sProp 𝕄} :
    iprop(levAts (K (F := F)).L (K (F := F)).lev ∗ OutFl d L o k ∗ OW d L O W
        ∗ (((∃ g, oBuf d L (slot k) g) ∗ oPc d L o k ∗ semVal (cell d L (outSem k)) 0 ∗ OW d L O W) -∗ Φ ⟨⟩))
      ⊢ wp frame (wpE (defs₀ (F := F)) 𝒱₀ (thr d L) none) Set.univ (outWait L k) Φ := by
  iintro ⟨Hlv, ⟨%g, Hfl, Hr⟩, HO, HΦ⟩
  iapply (wp_wait d L O W hO)
  isplitl [Hlv]; · iexact Hlv
  isplitl [Hfl]; · iexact Hfl
  isplitl [HO]; · iexact HO
  iintro ⟨⟨Ho, Hb⟩, Hs, HO⟩
  iapply HΦ
  isplitl [Hb Hr]
  · iexists g
    iapply (pointsTo_split_subset (q := fullShare) (f := g) (S := Finset.univ) (Finset.subset_univ (oS k).view.set)).2
    isplitl [Hb]; · iexact Hb
    iexact Hr
  isplitl [Ho]; · iexact Ho
  isplitl [Hs]; · iexact Hs
  iexact HO

/-! ## The loop -/

/-- A result's value: how many of the boundaries lie at or below it, found by comparing with the middle one first. -/
def bk (b0 b1 b2 v : F .f32) : BitVec 32 :=
  Scalar.select (FloatOps.cmpf .oge v b1) (Scalar.select (FloatOps.cmpf .oge v b2) 3#32 2#32) (Scalar.select (FloatOps.cmpf .oge v b0) 1#32 0#32)

/-- A cast between equal shapes changes nothing. -/
theorem shapeCast_self {s : Shape} {α : Type} (h : s.numel = s.numel) (v : s.Idx → α) : shapeCast s v h = v := by
  funext j; simp [shapeCast]

/-- What a trip stores, an element at a time. -/
theorem pay_apply (b0 b1 b2 : F .f32) (v : Vec F S16 .f32) (l : S16.Idx) :
    k0_pay9 b0 b1 b2 k0_pay5 k0_pay6 k0_pay7 k0_pay8 v l = bk b0 b1 b2 (v l) := by
  unfold k0_pay9 k0_pay5 k0_pay6 k0_pay7 k0_pay8 bk
  simp only [shapeCast_self]
  rfl

variable (b0 b1 b2 : F .f32)

/-- The first `n` results of chunk `k` are in its staging buffer, over the input buffer's contents `f`. -/
def Done (k : Fin 38) (f : Buf (Elt F) ((xB (slot k)).view.loc (thr d L))) (n : ℕ) (g : Buf (Elt F) ((oB (slot k)).view.loc (thr d L))) : Prop :=
  ∀ y : (Sh (sz k)).Idx, (y 0).val < n → (oS k).view.read (Elt F) g y = bk b0 b1 b2 ((xS k).view.read (Elt F) f y)

/-- A trip's store adds its sixteen results. -/
theorem done_trip (k : Fin 38) (t : Fin (lp k).trips) (f : Buf (Elt F) ((xB (slot k)).view.loc (thr d L)))
    (g : Buf (Elt F) ((oB (slot k)).view.loc (thr d L))) (hg : Done d L b0 b1 b2 k f (16 * t.val) g) :
    Done d L b0 b1 b2 k f (16 * (t.val + 1))
      (((oB (slot k)).access (tRect t)).write (Elt F) g
        (k0_pay9 b0 b1 b2 k0_pay5 k0_pay6 k0_pay7 k0_pay8 (((xB (slot k)).access (tRect t)).read (Elt F) f)) Finset.univ) := by
  intro y hy
  have ht : t.val < 1024 := by have := t_lt t; have := sz_le k; omega
  show (oB (slot k)).view.read (Elt F) _ ((vRect k).emb y) = bk b0 b1 b2 ((xB (slot k)).view.read (Elt F) f ((vRect k).emb y))
  have hy0 : (((vRect k).emb y) 0).val = (y 0).val := by
    rw [Rect.emb_apply]; simp
  have hmem : ((vRect k).emb y) ∈ Finset.univ.map (tRect t).emb ↔ 16 * t.val ≤ (y 0).val := by
    rw [Rect.map_emb_univ, Rect.mem_set_unit]
    have h0 : tOff t.val 0 = 16 * t.val := congrFun (tOff_eq ht) 0
    constructor
    · intro h
      have := (h 0).1
      rw [h0, hy0] at this
      exact this
    · intro h a
      match a with
      | ⟨0, _⟩ =>
        show tOff t.val 0 ≤ (((vRect k).emb y) 0).val ∧ (((vRect k).emb y) 0).val < tOff t.val 0 + 16
        rw [h0, hy0]
        omega
  by_cases h : 16 * t.val ≤ (y 0).val
  · obtain ⟨l, -, hl⟩ := Finset.mem_map.mp (hmem.mpr h)
    rw [← hl, View.read_slice_write_emb _ _ _ (Finset.mem_univ _), pay_apply]
    rfl
  · rw [View.read_slice_write_of_not_mem _ _ _ _ (fun hm => h (hmem.mp hm))]
    exact hg y (by omega)

/-- Chunk `k`'s loop: from the input's staging buffer it leaves the chunk's results in the result's. -/
theorem wp_loop (k : Fin 38) (f : Buf (Elt F) ((xB (slot k)).view.loc (thr d L))) (g : Buf (Elt F) ((oB (slot k)).view.loc (thr d L)))
    {Φ : PUnit → sProp 𝕄} :
    iprop(xBuf d L (slot k) f ∗ oBuf d L (slot k) g
        ∗ ((xBuf d L (slot k) f ∗ ∃ g', ⌜Done d L b0 b1 b2 k f (sz k) g'⌝ ∗ oBuf d L (slot k) g') -∗ Φ ⟨⟩))
      ⊢ wp frame (wpE (defs₀ (F := F)) 𝒱₀ (thr d L) none) Set.univ (loop L b0 b1 b2 k0_pay5 k0_pay6 k0_pay7 k0_pay8 k) Φ := by
  have hbody : ∀ (t : Fin (Scf.trips (lp k).lb (lp k).ub (lp k).st)) (u : Unit),
      iprop(xBuf d L (slot k) f ∗ ∃ g', ⌜Done d L b0 b1 b2 k f (16 * t.val) g'⌝ ∗ oBuf d L (slot k) g')
        ⊢ wp frame (wpE (defs₀ (F := F)) 𝒱₀ (thr d L) none) Set.univ (tripBody L b0 b1 b2 k0_pay5 k0_pay6 k0_pay7 k0_pay8 k t u)
          fun _ => iprop(xBuf d L (slot k) f ∗ ∃ g', ⌜Done d L b0 b1 b2 k f (16 * (t.val + 1)) g'⌝ ∗ oBuf d L (slot k) g') := by
    intro t _
    unfold tripBody
    iintro ⟨Hx, %g', %hg, Ho⟩
    iapply (wp_load_rect 𝒱₀ (thr d L) none Set.univ (m := xB (slot k)) (r := tRect t) (f := f) (Finset.subset_univ _)) $$ Hx
    iintro Hx
    iapply (wp_load_rect 𝒱₀ (thr d L) none Set.univ (m := oB (slot k)) (r := tRect t) (f := g') (Finset.subset_univ _)) $$ Ho
    iintro Ho
    iapply (wp_store 𝒱₀ (thr d L) none Set.univ (m := oB (slot k)) (r := tRect t) (f := g') (Finset.subset_univ _)) $$ Ho
    iintro Ho
    simp only [Prog.bind, wp_pure]
    imodintro
    isplitl [Hx]; · iexact Hx
    iexists _
    isplitr
    swap; · iexact Ho
    ipureintro
    exact done_trip d L b0 b1 b2 k t f g' hg
  unfold loop
  iintro ⟨Hx, Ho, HΦ⟩
  iapply (Scf.wp_for frame (wpE (defs₀ (F := F)) 𝒱₀ (thr d L) none) Set.univ (lp k).lb (lp k).ub (lp k).st (lp_ok k) ⟨⟩
    (tripBody L b0 b1 b2 k0_pay5 k0_pay6 k0_pay7 k0_pay8 k)
    (fun t _ => iprop(xBuf d L (slot k) f ∗ ∃ g', ⌜Done d L b0 b1 b2 k f (16 * t) g'⌝ ∗ oBuf d L (slot k) g')) hbody)
  isplitl [Hx Ho]
  · isplitl [Hx]; · iexact Hx
    iexists g
    isplitr
    · ipureintro; intro y hy; omega
    · iexact Ho
  · iintro %_ ⟨Hx, %g', %hg, Ho⟩
    iapply HΦ
    isplitl [Hx]; · iexact Hx
    iexists g'
    isplitr
    · ipureintro
      have h16 : 16 * (lp k).trips = sz k := by rw [lp_trips k]; exact sz_mod k
      exact h16 ▸ hg
    · iexact Ho

end Cert.Proof.Bucket

end
-- ==== Proof.Bucket.Tile.lean ====
/-
  A tile's chunks in order. Before chunk `k` the copies in of chunks `k` and `k + 1` are under way and the third input
  slot is idle; the copies out of chunks `k - 3`, `k - 2`, `k - 1` are under way; the results up to chunk `k - 4` are at
  their target. One chunk's commands take this state at `k` to the state at `k + 1` (`wp_chunk`), so all 38 take it from
  the start to the end (`wp_chunks`).
-/
module

public import proofs.«01_k».proof.Proof.Bucket.Steps

@[expose] public section

noncomputable section

namespace Cert.Proof.Bucket

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-! ## Slots and their semaphores -/

/-- The semaphores of a slot, one per size it stages. -/
def kinds : Fin 3 → Finset (Fin 8)
  | 0 => {0, 1, 2}
  | 1 => {3, 4, 5}
  | 2 => {6, 7}

/-- A chunk's kind is one of its slot's. -/
theorem kind_mem : ∀ k : Fin 38, kind k ∈ kinds (slot k) := by decide

/-- The semaphore of a kind's copies in. -/
def inS (κ : Fin 8) : DmaSem sig := ⟨κ.val, Nat.lt_of_lt_of_le κ.isLt (by decide)⟩
/-- The semaphore of a kind's copies out. -/
def outS (κ : Fin 8) : DmaSem sig := ⟨8 + κ.val, Nat.lt_of_lt_of_le (Nat.add_lt_add_left κ.isLt 8) (by decide)⟩

/-- Chunk number `j`'s slot, `j` also past the last chunk. -/
def sl (j : ℕ) : Fin 3 := ⟨j % 3, Nat.mod_lt _ (by decide)⟩

abbrev inSems (s : Finset (Fin 8)) : sProp 𝕄 := bigSep s fun κ => semVal (cell d L (inS κ)) 0
abbrev outSems (s : Finset (Fin 8)) : sProp 𝕄 := bigSep s fun κ => semVal (cell d L (outS κ)) 0

variable (x : Buf (Elt F) (xLoc d)) (o o' : Buf (Elt F) (oLoc d))

/-- An input slot with no copy under way, and one with chunk `k`'s. -/
abbrev XIdle (s : Fin 3) : sProp 𝕄 := iprop((∃ f, xBuf d L s f) ∗ inSems d L (kinds s))
abbrev XBusy (k : Fin 38) : sProp 𝕄 := iprop(InFl d L x k ∗ inSems d L ((kinds (slot k)).erase (kind k)))
/-- A result slot with no copy under way, and one with chunk `k`'s. -/
abbrev OIdle (s : Fin 3) : sProp 𝕄 := iprop((∃ g, oBuf d L s g) ∗ outSems d L (kinds s))
abbrev OBusy (k : Fin 38) : sProp 𝕄 := iprop(OutFl d L o k ∗ outSems d L ((kinds (slot k)).erase (kind k)))

/-- The input slot of chunk `j` once its copy in was due to start; the result slot of chunk `j` once that of chunk
    `j - 3`, which it shares, was due to start its copy out. -/
def XSt (j : ℕ) : sProp 𝕄 := if h : j < 38 then XBusy d L x ⟨j, h⟩ else XIdle d L (sl j)
/-- The state of the result's slot when chunk `j` comes to it. -/
def OSt (j : ℕ) : sProp 𝕄 := if h : 3 ≤ j ∧ j < 41 then OBusy d L o ⟨j - 3, by omega⟩ else OIdle d L (sl j)

abbrev xPcs (p : Fin 38 → Prop) [DecidablePred p] : sProp 𝕄 := bigSep (Finset.univ.filter p) fun j => xPc d L x j
abbrev oPcs (p : Fin 38 → Prop) [DecidablePred p] : sProp 𝕄 := bigSep (Finset.univ.filter p) fun j => oPc d L o j

/-- Pieces of a collection: one more. -/
theorem pcs_insert (Φ : Fin 38 → sProp 𝕄) (p q : Fin 38 → Prop) [DecidablePred p] [DecidablePred q] (a : Fin 38) (ha : ¬ q a)
    (h : ∀ j, p j ↔ j = a ∨ q j) : bigSep (Finset.univ.filter p) Φ = iprop(Φ a ∗ bigSep (Finset.univ.filter q) Φ) := by
  rw [show Finset.univ.filter p = insert a (Finset.univ.filter q) by ext j; simp [h]]
  exact SparseCore.bigSep_insert' (by simpa using ha)
/-- Pieces chosen by equivalent conditions are the same pieces. -/
theorem pcs_congr (Φ : Fin 38 → sProp 𝕄) (p q : Fin 38 → Prop) [DecidablePred p] [DecidablePred q]
    (h : ∀ j, p j ↔ q j) : bigSep (Finset.univ.filter p) Φ = bigSep (Finset.univ.filter q) Φ := by
  rw [show Finset.univ.filter p = Finset.univ.filter q by ext j; simp [h]]

/-- The tile's programs under its logic. -/
abbrev WP (p : PT F L PUnit) (Φ : PUnit → sProp 𝕄) : sProp 𝕄 := wp frame (wpE (defs₀ (F := F)) 𝒱₀ (thr d L) none) Set.univ p Φ

/-- A program followed by another: the first runs to where the second runs on. -/
theorem WP_bind (p : PT F L PUnit) (q : PUnit → PT F L PUnit) (Φ : PUnit → sProp 𝕄) :
    WP d L (p >>= q) Φ = WP d L p fun a => WP d L (q a) Φ := by rw [WP, wp_bind]
/-- A program that only returns. -/
theorem WP_ret (Φ : PUnit → sProp 𝕄) : Φ ⟨⟩ ⊢ WP d L (pure ⟨⟩) Φ := by
  simp only [WP, wp_pure]
  iintro H
  imodintro
  iexact H

/-! ## A step at a time -/

/-- Starting chunk `k`'s copy in makes its slot busy. -/
theorem wp_xStart (k : Fin 38) {Φ : PUnit → sProp 𝕄} :
    iprop(XIdle d L (slot k) ∗ xPc d L x k ∗ (XBusy d L x k -∗ Φ ⟨⟩)) ⊢ WP d L (inStart L k) Φ := by
  iintro ⟨⟨⟨%f, Hb⟩, Hs⟩, Hx, HΦ⟩
  ihave Hs' := (Entails.of_eq (SparseCore.bigSep_erase' (kind_mem k))) $$ Hs
  icases Hs' with ⟨Hs, Hss⟩
  iapply (wp_inStart d L x k f)
  isplitl [Hb]; · iexact Hb
  isplitl [Hx]; · iexact Hx
  isplitl [Hs]; · iexact Hs
  iintro Hfl
  iapply HΦ
  isplitl [Hfl]; · iexact Hfl
  iexact Hss

/-- Waiting for it makes the slot idle, but holding the chunk. -/
theorem wp_xWait (k : Fin 38) (O : CellTallies nD τ sig (HIx 1)) (W : Waits sig (HIx 1)) (hO : ∀ g, O g none = 0) {Φ : PUnit → sProp 𝕄} :
    iprop(levAts (K (F := F)).L (K (F := F)).lev ∗ XBusy d L x k ∗ OW d L O W
        ∗ (((∃ f, ⌜XIn d L x k f⌝ ∗ xBuf d L (slot k) f) ∗ inSems d L (kinds (slot k)) ∗ xPc d L x k ∗ OW d L O W) -∗ Φ ⟨⟩))
      ⊢ WP d L (inWait L k) Φ := by
  iintro ⟨Hlv, ⟨Hfl, Hss⟩, HO, HΦ⟩
  iapply (wp_inWait d L x k O W hO)
  isplitl [Hlv]; · iexact Hlv
  isplitl [Hfl]; · iexact Hfl
  isplitl [HO]; · iexact HO
  iintro ⟨⟨Hb, Hx⟩, Hs, HO⟩
  iapply HΦ
  isplitl [Hb]; · iexact Hb
  isplitl [Hs Hss]
  · iapply (Entails.of_eq (SparseCore.bigSep_erase' (Φ := fun κ => semVal (cell d L (inS κ)) 0) (kind_mem k)).symm)
    isplitl [Hs]; · iexact Hs
    iexact Hss
  isplitl [Hx]; · iexact Hx
  iexact HO

/-- Waiting for chunk `k`'s copy out: its slot idle, its results in place. -/
theorem wp_oWait (k : Fin 38) (O : CellTallies nD τ sig (HIx 1)) (W : Waits sig (HIx 1)) (hO : ∀ g, O g none = 0) {Φ : PUnit → sProp 𝕄} :
    iprop(levAts (K (F := F)).L (K (F := F)).lev ∗ OBusy d L o k ∗ OW d L O W
        ∗ ((OIdle d L (slot k) ∗ oPc d L o k ∗ OW d L O W) -∗ Φ ⟨⟩))
      ⊢ WP d L (outWait L k) Φ := by
  iintro ⟨Hlv, ⟨Hfl, Hss⟩, HO, HΦ⟩
  iapply (wp_outWait d L o k O W hO)
  isplitl [Hlv]; · iexact Hlv
  isplitl [Hfl]; · iexact Hfl
  isplitl [HO]; · iexact HO
  iintro ⟨Hb, Ho, Hs, HO⟩
  iapply HΦ
  isplitl [Hb Hs Hss]
  · isplitl [Hb]; · iexact Hb
    iapply (Entails.of_eq (SparseCore.bigSep_erase' (Φ := fun κ => semVal (cell d L (outS κ)) 0) (kind_mem k)).symm)
    isplitl [Hs]; · iexact Hs
    iexact Hss
  isplitl [Ho]; · iexact Ho
  iexact HO

/-- The result aimed at: each value's bucket. -/
def tgt (b0 b1 b2 : F .f32) : Buf (Elt F) (oLoc d) := fun j => bk b0 b1 b2 (x j)

variable (b0 b1 b2 : F .f32)

/-- A chunk whose loop has run over the chunk that came in holds the target's values. -/
theorem oOut_of_done (k : Fin 38) (f : Buf (Elt F) ((xB (slot k)).view.loc (thr d L))) (g : Buf (Elt F) ((oB (slot k)).view.loc (thr d L)))
    (hf : XIn d L x k f) (hg : Done d L b0 b1 b2 k f (sz k) g) : OOut d L (tgt d x b0 b1 b2) k g := by
  funext y
  refine (hg y (y 0).isLt).trans ?_
  rw [show (xS k).view.read (Elt F) f y = (xH L k).view.read (Elt F) x y from congrFun hf y]
  rfl

/-- A chunk's loop and the start of its copy out. -/
theorem wp_compute (k : Fin 38) {Φ : PUnit → sProp 𝕄} :
    iprop((∃ f, ⌜XIn d L x k f⌝ ∗ xBuf d L (slot k) f) ∗ inSems d L (kinds (slot k)) ∗ OIdle d L (slot k) ∗ oPc d L o' k
        ∗ ((XIdle d L (slot k) ∗ OBusy d L (tgt d x b0 b1 b2) k) -∗ Φ ⟨⟩))
      ⊢ WP d L (loop L b0 b1 b2 k0_pay5 k0_pay6 k0_pay7 k0_pay8 k >>= fun _ => outStart L k) Φ := by
  iintro ⟨⟨%f, %hf, Hx⟩, Hxs, ⟨⟨%g, Ho⟩, Hos⟩, Hp, HΦ⟩
  rw [WP_bind]
  iapply (wp_loop d L b0 b1 b2 k f g)
  isplitl [Hx]; · iexact Hx
  isplitl [Ho]; · iexact Ho
  iintro ⟨Hx, %g', %hg, Ho⟩
  ihave Hos' := (Entails.of_eq (SparseCore.bigSep_erase' (kind_mem k))) $$ Hos
  icases Hos' with ⟨Hs, Hos⟩
  iapply (wp_outStart d L (tgt d x b0 b1 b2) k g' o' (oOut_of_done d L x b0 b1 b2 k f g' hf hg))
  isplitl [Ho]; · iexact Ho
  isplitl [Hp]; · iexact Hp
  isplitl [Hs]; · iexact Hs
  iintro Hfl
  iapply HΦ
  isplitl [Hx Hxs]
  · isplitl [Hx]; · iexists f; iexact Hx
    iexact Hxs
  isplitl [Hfl]; · iexact Hfl
  iexact Hos

/-! ## The state between chunks -/

variable (O : CellTallies nD τ sig (HIx 1)) (W : Waits sig (HIx 1))

/-- What the tile holds before chunk `k`. -/
abbrev St (k : ℕ) : sProp 𝕄 := iprop(XSt d L x k ∗ XSt d L x (k + 1) ∗ XIdle d L (sl (k + 2)) ∗ xPcs d L x (fun j => j.val < k ∨ k + 2 ≤ j.val)
  ∗ OSt d L o k ∗ OSt d L o (k + 1) ∗ OSt d L o (k + 2) ∗ oPcs d L o' (fun j => k ≤ j.val) ∗ oPcs d L o (fun j => j.val + 3 < k)
  ∗ OW d L O W)

/-- Before the last chunk the input's slot is busy with chunk `k`, -/
theorem XSt_lt (k : ℕ) (h : k < 38) : XSt d L x k = XBusy d L x ⟨k, h⟩ := dif_pos h
/-- past it, idle. -/
theorem XSt_ge (k : ℕ) (h : 38 ≤ k) : XSt d L x k = XIdle d L (sl k) := dif_neg (by omega)
/-- From the fourth chunk on the result's slot is busy with the chunk three before, -/
theorem OSt_busy (k : ℕ) (h : 3 ≤ k) (h' : k < 41) : OSt d L o k = OBusy d L o ⟨k - 3, by omega⟩ := dif_pos ⟨h, h'⟩
/-- before that, idle. -/
theorem OSt_idle (k : ℕ) (h : k < 3) : OSt d L o k = OIdle d L (sl k) := dif_neg (by omega)
/-- Three chunks on, the slot is the same. -/
theorem sl_add (k : ℕ) : sl (k + 3) = sl k := Fin.ext (Nat.add_mod_right k 3)
/-- A chunk's slot is that of its number. -/
theorem slot_eq (k : ℕ) (h : k < 38) : slot ⟨k, h⟩ = sl k := rfl

/-- The first part of chunk `k`: the copy in of chunk `k + 2`, if there is one. -/
theorem wp_ahead (k : ℕ) {Φ : PUnit → sProp 𝕄} :
    iprop(XIdle d L (sl (k + 2)) ∗ xPcs d L x (fun j => j.val < k ∨ k + 2 ≤ j.val)
        ∗ ((XSt d L x (k + 2) ∗ xPcs d L x (fun j => j.val < k ∨ k + 3 ≤ j.val)) -∗ Φ ⟨⟩))
      ⊢ WP d L (run L b0 b1 b2 k0_pay5 k0_pay6 k0_pay7 k0_pay8 (if h : k + 2 < 38 then [.inStart ⟨k + 2, h⟩] else [])) Φ := by
  by_cases h : k + 2 < 38
  · rw [dif_pos h, XSt_lt d L x _ h, xPcs, xPcs, pcs_insert _ (fun j => j.val < k ∨ k + 2 ≤ j.val) (fun j => j.val < k ∨ k + 3 ≤ j.val) ⟨k + 2, h⟩
      (by simp) (fun j => by simp only [Fin.ext_iff]; omega)]
    simp only [run, exec, bind_pure]
    iintro ⟨Hi, ⟨Hx, Hxs⟩, HΦ⟩
    iapply (wp_xStart d L x ⟨k + 2, h⟩)
    isplitl [Hi]; · iexact Hi
    isplitl [Hx]; · iexact Hx
    iintro Hb
    iapply HΦ
    isplitl [Hb]; · iexact Hb
    iexact Hxs
  · rw [dif_neg h, XSt_ge d L x _ (by omega), xPcs, xPcs, pcs_congr _ (fun j => j.val < k ∨ k + 2 ≤ j.val) (fun j => j.val < k ∨ k + 3 ≤ j.val)
      (fun j => by have := j.isLt; omega)]
    simp only [run]
    iintro ⟨Hi, Hxs, HΦ⟩
    iapply WP_ret
    iapply HΦ
    isplitl [Hi]; · iexact Hi
    iexact Hxs

/-- Chunk `k`'s wait for the copy out of chunk `k - 3`, if there is one. -/
theorem wp_behind (k : ℕ) (hk : k < 41) (hO : ∀ g, O g none = 0) {Φ : PUnit → sProp 𝕄} :
    iprop(levAts (K (F := F)).L (K (F := F)).lev ∗ OSt d L o k ∗ oPcs d L o (fun j => j.val + 3 < k) ∗ OW d L O W
        ∗ ((OIdle d L (sl k) ∗ oPcs d L o (fun j => j.val + 3 < k + 1) ∗ OW d L O W) -∗ Φ ⟨⟩))
      ⊢ WP d L (run L b0 b1 b2 k0_pay5 k0_pay6 k0_pay7 k0_pay8 (if h : 3 ≤ k then [.outWait ⟨k - 3, by omega⟩] else [])) Φ := by
  by_cases h : 3 ≤ k
  · rw [dif_pos h, OSt_busy d L o k h hk, oPcs, oPcs, pcs_insert _ (fun j => j.val + 3 < k + 1) (fun j => j.val + 3 < k) ⟨k - 3, by omega⟩
      (by simp only; omega) (fun j => by simp only [Fin.ext_iff]; omega),
      show sl k = slot ⟨k - 3, by omega⟩ from by rw [slot_eq, ← sl_add (k - 3), Nat.sub_add_cancel h]]
    simp only [run, exec, bind_pure]
    iintro ⟨Hlv, Hb, Hos, HO, HΦ⟩
    iapply (wp_oWait d L o ⟨k - 3, by omega⟩ O W hO)
    isplitl [Hlv]; · iexact Hlv
    isplitl [Hb]; · iexact Hb
    isplitl [HO]; · iexact HO
    iintro ⟨Hi, Ho, HO⟩
    iapply HΦ
    isplitl [Hi]; · iexact Hi
    isplitl [Ho Hos]
    · isplitl [Ho]; · iexact Ho
      iexact Hos
    iexact HO
  · rw [dif_neg h, OSt_idle d L o k (by omega), oPcs, oPcs, pcs_congr _ (fun j => j.val + 3 < k + 1) (fun j => j.val + 3 < k)
      (fun j => by omega)]
    simp only [run]
    iintro ⟨_, Hi, Hos, HO, HΦ⟩
    iapply WP_ret
    iapply HΦ
    isplitl [Hi]; · iexact Hi
    isplitl [Hos]; · iexact Hos
    iexact HO

/-- A chunk's commands, once its copy ahead has started. -/
theorem chunk_eq (k : ℕ) (hk : k < 38) : chunk k = (if h : k + 2 < 38 then [.inStart ⟨k + 2, h⟩] else [])
    ++ (.inWait ⟨k, hk⟩ :: ((if h : 3 ≤ k then [.outWait ⟨k - 3, by omega⟩] else []) ++ [.loop ⟨k, hk⟩, .outStart ⟨k, hk⟩])) := by
  rw [chunk, dif_pos hk]
  by_cases h : 3 ≤ k <;> simp [h]

/-- One chunk. -/
theorem wp_chunk (k : ℕ) (hk : k < 38) (hO : ∀ g, O g none = 0) {Φ : PUnit → sProp 𝕄} :
    iprop(levAts (K (F := F)).L (K (F := F)).lev ∗ St d L x (tgt d x b0 b1 b2) o' O W k ∗ (St d L x (tgt d x b0 b1 b2) o' O W (k + 1) -∗ Φ ⟨⟩))
      ⊢ WP d L (run L b0 b1 b2 k0_pay5 k0_pay6 k0_pay7 k0_pay8 (chunk k)) Φ := by
  rw [chunk_eq k hk, run_append, WP_bind, St, St, XSt_lt d L x k hk]
  iintro ⟨#Hlv, ⟨Hx0, Hx1, Hx2, Hxs, Ho0, Ho1, Ho2, Hot, Hod, HO⟩, HΦ⟩
  iapply (wp_ahead d L x b0 b1 b2 k)
  isplitl [Hx2]; · iexact Hx2
  isplitl [Hxs]; · iexact Hxs
  iintro ⟨Hx2, Hxs⟩
  rw [run, WP_bind]
  iapply (wp_xWait d L x ⟨k, hk⟩ O W hO)
  isplitl []; · iexact Hlv
  isplitl [Hx0]; · iexact Hx0
  isplitl [HO]; · iexact HO
  iintro ⟨Hb, Hbs, Hx, HO⟩
  rw [run_append, WP_bind]
  iapply (wp_behind d L (tgt d x b0 b1 b2) b0 b1 b2 O W k (by omega) hO)
  isplitl []; · iexact Hlv
  isplitl [Ho0]; · iexact Ho0
  isplitl [Hod]; · iexact Hod
  isplitl [HO]; · iexact HO
  iintro ⟨Hi, Hod, HO⟩
  simp only [run, exec, bind_pure]
  ihave Hot' := (Entails.of_eq (pcs_insert (fun j => oPc d L o' j) (fun j => k ≤ j.val) (fun j => k + 1 ≤ j.val) ⟨k, hk⟩
      (by simp) (fun j => by simp only [Fin.ext_iff]; omega))) $$ Hot
  icases Hot' with ⟨Ho, Hot⟩
  iapply (wp_compute d L x o' b0 b1 b2 ⟨k, hk⟩)
  isplitl [Hb]; · iexact Hb
  isplitl [Hbs]; · iexact Hbs
  isplitl [Hi]; · iexact Hi
  isplitl [Ho]; · iexact Ho
  iintro ⟨Hi, Hb⟩
  iapply HΦ
  isplitl [Hx1]; · iexact Hx1
  isplitl [Hx2]; · iexact Hx2
  isplitl [Hi]
  · rw [show k + 1 + 2 = k + 3 from rfl, sl_add]
    iexact Hi
  isplitl [Hx Hxs]
  · iapply (Entails.of_eq (pcs_insert (fun j => xPc d L x j) (fun j => j.val < k + 1 ∨ k + 1 + 2 ≤ j.val) (fun j => j.val < k ∨ k + 3 ≤ j.val) ⟨k, hk⟩
      (by simp) (fun j => by simp only [Fin.ext_iff]; omega)).symm)
    isplitl [Hx]; · iexact Hx
    iexact Hxs
  isplitl [Ho1]; · iexact Ho1
  isplitl [Ho2]; · iexact Ho2
  isplitl [Hb]
  · rw [OSt_busy d L _ (k + 1 + 2) (by omega) (by omega)]
    iexact Hb
  isplitl [Hot]; · iexact Hot
  isplitl [Hod]; · iexact Hod
  iexact HO

/-- The chunks `k`, …, `k + n - 1`. -/
theorem wp_chunks (hO : ∀ g, O g none = 0) : ∀ (n k : ℕ) (_ : k + n ≤ 38) {Φ : PUnit → sProp 𝕄},
    iprop(levAts (K (F := F)).L (K (F := F)).lev ∗ St d L x (tgt d x b0 b1 b2) o' O W k ∗ (St d L x (tgt d x b0 b1 b2) o' O W (k + n) -∗ Φ ⟨⟩))
      ⊢ WP d L (run L b0 b1 b2 k0_pay5 k0_pay6 k0_pay7 k0_pay8 (chunks k n)) Φ := by
  intro n
  induction n with
  | zero =>
    intro k _ Φ
    simp only [chunks, run]
    iintro ⟨_, HS, HΦ⟩
    iapply WP_ret
    iapply HΦ
    iexact HS
  | succ n ih =>
    intro k hk Φ
    rw [chunks, run_append, WP_bind]
    iintro ⟨#Hlv, HS, HΦ⟩
    iapply (wp_chunk d L x o' b0 b1 b2 O W k (by omega) hO)
    isplitl []; · iexact Hlv
    isplitl [HS]; · iexact HS
    iintro HS
    iapply (ih (k + 1) (by omega))
    isplitl []; · iexact Hlv
    isplitl [HS]; · iexact HS
    rw [show k + 1 + n = k + (n + 1) by omega]
    iexact HΦ

/-- What the tile's buffers, semaphores and arrays are at rest. -/
abbrev Rest (o : Buf (Elt F) (oLoc d)) : sProp 𝕄 := iprop(XIdle d L 0 ∗ XIdle d L 1 ∗ XIdle d L 2 ∗ OIdle d L 0 ∗ OIdle d L 1 ∗ OIdle d L 2
  ∗ xPcs d L x (fun _ => True) ∗ oPcs d L o (fun _ => True) ∗ OW d L O W)

/-- All the chunks, and the three waits after them: the results all at their target. -/
theorem wp_all (hO : ∀ g, O g none = 0) {Φ : PUnit → sProp 𝕄} :
    iprop(levAts (K (F := F)).L (K (F := F)).lev ∗ St d L x (tgt d x b0 b1 b2) o' O W 0 ∗ (Rest d L x O W (tgt d x b0 b1 b2) -∗ Φ ⟨⟩))
      ⊢ WP d L (run L b0 b1 b2 k0_pay5 k0_pay6 k0_pay7 k0_pay8 (chunks 0 38 ++ [.outWait 35, .outWait 36, .outWait 37])) Φ := by
  rw [run_append, WP_bind]
  iintro ⟨#Hlv, HS, HΦ⟩
  iapply (wp_chunks d L x o' b0 b1 b2 O W hO 38 0 (by decide))
  isplitl []; · iexact Hlv
  isplitl [HS]; · iexact HS
  iintro ⟨Hx0, Hx1, Hx2, Hxs, Ho0, Ho1, Ho2, _, Hod, HO⟩
  rw [show ([.outWait 35, .outWait 36, .outWait 37] : List Cmd) = (if h : 3 ≤ 38 then [.outWait ⟨38 - 3, by decide⟩] else [])
    ++ ((if h : 3 ≤ 39 then [.outWait ⟨39 - 3, by decide⟩] else []) ++ (if h : 3 ≤ 40 then [.outWait ⟨40 - 3, by decide⟩] else [])) from rfl,
    run_append, WP_bind]
  iapply (wp_behind d L (tgt d x b0 b1 b2) b0 b1 b2 O W 38 (by decide) hO)
  isplitl []; · iexact Hlv
  isplitl [Ho0]; · iexact Ho0
  isplitl [Hod]; · iexact Hod
  isplitl [HO]; · iexact HO
  iintro ⟨Ho0, Hod, HO⟩
  rw [run_append, WP_bind]
  iapply (wp_behind d L (tgt d x b0 b1 b2) b0 b1 b2 O W 39 (by decide) hO)
  isplitl []; · iexact Hlv
  isplitl [Ho1]; · iexact Ho1
  isplitl [Hod]; · iexact Hod
  isplitl [HO]; · iexact HO
  iintro ⟨Ho1, Hod, HO⟩
  iapply (wp_behind d L (tgt d x b0 b1 b2) b0 b1 b2 O W 40 (by decide) hO)
  isplitl []; · iexact Hlv
  isplitl [Ho2]; · iexact Ho2
  isplitl [Hod]; · iexact Hod
  isplitl [HO]; · iexact HO
  iintro ⟨Ho2, Hod, HO⟩
  iapply HΦ
  ihave Hx0 := (Entails.of_eq (XSt_ge d L x 38 (by decide))) $$ Hx0
  ihave Hx1 := (Entails.of_eq (XSt_ge d L x 39 (by decide))) $$ Hx1
  isplitl [Hx1]; · iexact Hx1
  isplitl [Hx2]; · iexact Hx2
  isplitl [Hx0]; · iexact Hx0
  isplitl [Ho1]; · iexact Ho1
  isplitl [Ho2]; · iexact Ho2
  isplitl [Ho0]; · iexact Ho0
  isplitl [Hxs]
  · iapply (Entails.of_eq (pcs_congr (fun j => xPc d L x j) (fun j => j.val < 38 ∨ 40 ≤ j.val) (fun _ => True) (fun j => by have := j.isLt; simp)))
    iexact Hxs
  isplitl [Hod]
  · iapply (Entails.of_eq (pcs_congr (fun j => oPc d L (tgt d x b0 b1 b2) j) (fun j => j.val + 3 < 41) (fun _ => True) (fun j => by have := j.isLt; simp; omega)))
    iexact Hod
  iexact HO

end Cert.Proof.Bucket

end
-- ==== Proof.Bucket.Parts.lean ====
/-
  The kernel's body, part by part, is a run of commands (Chunks.lean): each printed part is the run of its list, the
  lists in a row are the chunks' commands.
-/
module

public import proofs.«01_k».proof.Proof.Bucket.Chunks

@[expose] public section

noncomputable section

namespace Cert.Proof.Bucket

open Cert.KernelIdeal Cert.KernelIdeal.Gen
open Idealize.ShloMosaic Idealize.SL.Sem

variable {F : FTy → Type} [FloatOps F]
variable (i : grid0.Coords) (c : BitVec 32) (b0 b1 b2 : F .f32) (v1 v2 v3 v4 : IVec S16 32)

/-- The tile's block start, as printed. -/
abbrev start : BitVec 32 :=
  Scalar.muli (Scalar.addi (Scalar.muli (BitVec.ofNat 32 (i 1).val) 2#32) (BitVec.ofNat 32 (i 0).val)) 524288#32

/-- Commands in order, then a result. -/
def runR {α : Type} (r : α) : List Cmd → PT F i α
  | [] => pure r
  | c :: cs => do
    exec i b0 b1 b2 v1 v2 v3 v4 c
    runR r cs

/-- Part 1 of the body: the prologue, a copy in, a wait, and the constants that the other parts take. -/
theorem part1 : onArgs (k0_part1 (F := F) i) = (do
    let v ← prologue i
    inStart i 2
    inWait i 0
    pure ⟨start i, k0_pay2 v, k0_pay3 v, k0_pay4 v, k0_pay5, k0_pay6, k0_pay7, k0_pay8⟩) := rfl

/-- Part 2 of the body as a list of commands. -/
theorem part2 : onArgs (k0_part2 (F := F) i) c b0 b1 b2 v1 v2 v3 v4 =
    run i b0 b1 b2 v1 v2 v3 v4 [.loop 0, .outStart 0, .inStart 3, .inWait 1, .loop 1, .outStart 1, .inStart 4] := rfl

/-- Part 3 of the body as a list of commands. -/
theorem part3 : onArgs (k0_part3 (F := F) i) c b0 b1 b2 v1 v2 v3 v4 =
    run i b0 b1 b2 v1 v2 v3 v4 [.inWait 2, .loop 2, .outStart 2, .inStart 5, .inWait 3, .outWait 0, .loop 3, .outStart 3] := rfl

/-- Part 4 of the body as a list of commands. -/
theorem part4 : onArgs (k0_part4 (F := F) i) c b0 b1 b2 v1 v2 v3 v4 =
    runR i b0 b1 b2 v1 v2 v3 v4 (⟨0#32, 1#32⟩) [.inStart 6, .inWait 4, .outWait 1, .loop 4, .outStart 4, .inStart 7, .inWait 5, .outWait 2] := rfl

/-- Part 5 of the body as a list of commands. -/
theorem part5 : onArgs (k0_part5 (F := F) i) c b0 b1 b2 v1 v2 v3 v4 0#32 1#32 =
    run i b0 b1 b2 v1 v2 v3 v4 [.loop 5, .outStart 5, .inStart 8, .inWait 6, .outWait 3, .loop 6, .outStart 6, .inStart 9] := rfl

/-- Part 6 of the body as a list of commands. -/
theorem part6 : onArgs (k0_part6 (F := F) i) c b0 b1 b2 v1 v2 v3 v4 =
    run i b0 b1 b2 v1 v2 v3 v4 [.inWait 7, .outWait 4, .loop 7, .outStart 7, .inStart 10, .inWait 8, .outWait 5, .loop 8] := rfl

/-- Part 7 of the body as a list of commands. -/
theorem part7 : onArgs (k0_part7 (F := F) i) c b0 b1 b2 v1 v2 v3 v4 =
    run i b0 b1 b2 v1 v2 v3 v4 [.outStart 8, .inStart 11, .inWait 9, .outWait 6, .loop 9, .outStart 9, .inStart 12, .inWait 10] := rfl

/-- Part 8 of the body as a list of commands. -/
theorem part8 : onArgs (k0_part8 (F := F) i) c b0 b1 b2 v1 v2 v3 v4 =
    runR i b0 b1 b2 v1 v2 v3 v4 (180224#32) [.outWait 7, .loop 10, .outStart 10, .inStart 13, .inWait 11, .outWait 8, .loop 11, .outStart 11] := rfl

/-- Part 9 of the body as a list of commands. -/
theorem part9 : onArgs (k0_part9 (F := F) i) c b0 b1 b2 v1 v2 v3 v4 180224#32 =
    run i b0 b1 b2 v1 v2 v3 v4 [.inStart 14, .inWait 12, .outWait 9, .loop 12, .outStart 12, .inStart 15, .inWait 13, .outWait 10] := rfl

/-- Part 10 of the body as a list of commands. -/
theorem part10 : onArgs (k0_part10 (F := F) i) c b0 b1 b2 v1 v2 v3 v4 =
    run i b0 b1 b2 v1 v2 v3 v4 [.loop 13, .outStart 13, .inStart 16, .inWait 14, .outWait 11, .loop 14, .outStart 14] := rfl

/-- Part 11 of the body as a list of commands. -/
theorem part11 : onArgs (k0_part11 (F := F) i) c b0 b1 b2 v1 v2 v3 v4 =
    run i b0 b1 b2 v1 v2 v3 v4 [.inStart 17, .inWait 15, .outWait 12, .loop 15, .outStart 15, .inStart 18, .inWait 16, .outWait 13, .loop 16] := rfl

/-- Part 12 of the body as a list of commands. -/
theorem part12 : onArgs (k0_part12 (F := F) i) c b0 b1 b2 v1 v2 v3 v4 =
    run i b0 b1 b2 v1 v2 v3 v4 [.outStart 16, .inStart 19, .inWait 17, .outWait 14, .loop 17, .outStart 17, .inStart 20] := rfl

/-- Part 13 of the body as a list of commands. -/
theorem part13 : onArgs (k0_part13 (F := F) i) c b0 b1 b2 v1 v2 v3 v4 =
    run i b0 b1 b2 v1 v2 v3 v4 [.inWait 18, .outWait 15, .loop 18, .outStart 18, .inStart 21, .inWait 19, .outWait 16, .loop 19] := rfl

/-- Part 14 of the body as a list of commands. -/
theorem part14 : onArgs (k0_part14 (F := F) i) c b0 b1 b2 v1 v2 v3 v4 =
    run i b0 b1 b2 v1 v2 v3 v4 [.outStart 19, .inStart 22, .inWait 20, .outWait 17, .loop 20, .outStart 20, .inStart 23, .inWait 21] := rfl

/-- Part 15 of the body as a list of commands. -/
theorem part15 : onArgs (k0_part15 (F := F) i) c b0 b1 b2 v1 v2 v3 v4 =
    run i b0 b1 b2 v1 v2 v3 v4 [.outWait 18, .loop 21, .outStart 21, .inStart 24, .inWait 22, .outWait 19, .loop 22, .outStart 22] := rfl

/-- Part 16 of the body as a list of commands. -/
theorem part16 : onArgs (k0_part16 (F := F) i) c b0 b1 b2 v1 v2 v3 v4 =
    runR i b0 b1 b2 v1 v2 v3 v4 (⟨0#32, 1024#32⟩) [.inStart 25, .inWait 23, .outWait 20, .loop 23, .outStart 23, .inStart 26, .inWait 24, .outWait 21] := rfl

/-- Part 17 of the body as a list of commands. -/
theorem part17 : onArgs (k0_part17 (F := F) i) c b0 b1 b2 v1 v2 v3 v4 0#32 1024#32 =
    run i b0 b1 b2 v1 v2 v3 v4 [.loop 24, .outStart 24, .inStart 27, .inWait 25, .outWait 22, .loop 25, .outStart 25, .inStart 28] := rfl

/-- Part 18 of the body as a list of commands. -/
theorem part18 : onArgs (k0_part18 (F := F) i) c b0 b1 b2 v1 v2 v3 v4 =
    run i b0 b1 b2 v1 v2 v3 v4 [.inWait 26, .outWait 23, .loop 26, .outStart 26, .inStart 29, .inWait 27, .outWait 24, .loop 27] := rfl

/-- Part 19 of the body as a list of commands. -/
theorem part19 : onArgs (k0_part19 (F := F) i) c b0 b1 b2 v1 v2 v3 v4 =
    run i b0 b1 b2 v1 v2 v3 v4 [.outStart 27, .inStart 30, .inWait 28, .outWait 25, .loop 28, .outStart 28, .inStart 31] := rfl

/-- Part 20 of the body as a list of commands. -/
theorem part20 : onArgs (k0_part20 (F := F) i) c b0 b1 b2 v1 v2 v3 v4 =
    run i b0 b1 b2 v1 v2 v3 v4 [.inWait 29, .outWait 26, .loop 29, .outStart 29, .inStart 32, .inWait 30, .outWait 27, .loop 30] := rfl

/-- Part 21 of the body as a list of commands. -/
theorem part21 : onArgs (k0_part21 (F := F) i) c b0 b1 b2 v1 v2 v3 v4 =
    run i b0 b1 b2 v1 v2 v3 v4 [.outStart 30, .inStart 33, .inWait 31, .outWait 28, .loop 31, .outStart 31, .inStart 34, .inWait 32] := rfl

/-- Part 22 of the body as a list of commands. -/
theorem part22 : onArgs (k0_part22 (F := F) i) c b0 b1 b2 v1 v2 v3 v4 =
    run i b0 b1 b2 v1 v2 v3 v4 [.outWait 29, .loop 32, .outStart 32, .inStart 35, .inWait 33, .outWait 30, .loop 33, .outStart 33] := rfl

/-- Part 23 of the body as a list of commands. -/
theorem part23 : onArgs (k0_part23 (F := F) i) c b0 b1 b2 v1 v2 v3 v4 =
    runR i b0 b1 b2 v1 v2 v3 v4 (⟨0#32, 1#32⟩) [.inStart 36, .inWait 34, .outWait 31, .loop 34, .outStart 34, .inStart 37, .inWait 35, .outWait 32] := rfl

/-- Part 24 of the body as a list of commands. -/
theorem part24 : onArgs (k0_part24 (F := F) i) c b0 b1 b2 v1 v2 v3 v4 0#32 1#32 =
    run i b0 b1 b2 v1 v2 v3 v4 [.loop 35, .outStart 35, .inWait 36, .outWait 33, .loop 36, .outStart 36, .inWait 37, .outWait 34, .loop 37] := rfl

/-- The whole body: the prologue, then the commands of the 38 chunks and the last three waits. -/
theorem body_eq : onArgs (cc0__sc_body (F := F) i) = (prologue i >>= fun v =>
    run i (k0_pay2 v) (k0_pay3 v) (k0_pay4 v) k0_pay5 k0_pay6 k0_pay7 k0_pay8
      (chunks 0 38 ++ [.outWait 35, .outWait 36, .outWait 37])) := by
  have h : onArgs (cc0__sc_body (F := F) i) = (do
      let r ← onArgs (k0_part1 (F := F) i)
      onArgs (k0_part2 (F := F) i) r.1 r.2.1 r.2.2.1 r.2.2.2.1 r.2.2.2.2.1 r.2.2.2.2.2.1 r.2.2.2.2.2.2.1 r.2.2.2.2.2.2.2
      onArgs (k0_part3 (F := F) i) r.1 r.2.1 r.2.2.1 r.2.2.2.1 r.2.2.2.2.1 r.2.2.2.2.2.1 r.2.2.2.2.2.2.1 r.2.2.2.2.2.2.2
      let p4 ← onArgs (k0_part4 (F := F) i) r.1 r.2.1 r.2.2.1 r.2.2.2.1 r.2.2.2.2.1 r.2.2.2.2.2.1 r.2.2.2.2.2.2.1 r.2.2.2.2.2.2.2
      onArgs (k0_part5 (F := F) i) r.1 r.2.1 r.2.2.1 r.2.2.2.1 r.2.2.2.2.1 r.2.2.2.2.2.1 r.2.2.2.2.2.2.1 r.2.2.2.2.2.2.2 p4.1 p4.2
      onArgs (k0_part6 (F := F) i) r.1 r.2.1 r.2.2.1 r.2.2.2.1 r.2.2.2.2.1 r.2.2.2.2.2.1 r.2.2.2.2.2.2.1 r.2.2.2.2.2.2.2
      onArgs (k0_part7 (F := F) i) r.1 r.2.1 r.2.2.1 r.2.2.2.1 r.2.2.2.2.1 r.2.2.2.2.2.1 r.2.2.2.2.2.2.1 r.2.2.2.2.2.2.2
      let p8 ← onArgs (k0_part8 (F := F) i) r.1 r.2.1 r.2.2.1 r.2.2.2.1 r.2.2.2.2.1 r.2.2.2.2.2.1 r.2.2.2.2.2.2.1 r.2.2.2.2.2.2.2
      onArgs (k0_part9 (F := F) i) r.1 r.2.1 r.2.2.1 r.2.2.2.1 r.2.2.2.2.1 r.2.2.2.2.2.1 r.2.2.2.2.2.2.1 r.2.2.2.2.2.2.2 p8
      onArgs (k0_part10 (F := F) i) r.1 r.2.1 r.2.2.1 r.2.2.2.1 r.2.2.2.2.1 r.2.2.2.2.2.1 r.2.2.2.2.2.2.1 r.2.2.2.2.2.2.2
      onArgs (k0_part11 (F := F) i) r.1 r.2.1 r.2.2.1 r.2.2.2.1 r.2.2.2.2.1 r.2.2.2.2.2.1 r.2.2.2.2.2.2.1 r.2.2.2.2.2.2.2
      onArgs (k0_part12 (F := F) i) r.1 r.2.1 r.2.2.1 r.2.2.2.1 r.2.2.2.2.1 r.2.2.2.2.2.1 r.2.2.2.2.2.2.1 r.2.2.2.2.2.2.2
      onArgs (k0_part13 (F := F) i) r.1 r.2.1 r.2.2.1 r.2.2.2.1 r.2.2.2.2.1 r.2.2.2.2.2.1 r.2.2.2.2.2.2.1 r.2.2.2.2.2.2.2
      onArgs (k0_part14 (F := F) i) r.1 r.2.1 r.2.2.1 r.2.2.2.1 r.2.2.2.2.1 r.2.2.2.2.2.1 r.2.2.2.2.2.2.1 r.2.2.2.2.2.2.2
      onArgs (k0_part15 (F := F) i) r.1 r.2.1 r.2.2.1 r.2.2.2.1 r.2.2.2.2.1 r.2.2.2.2.2.1 r.2.2.2.2.2.2.1 r.2.2.2.2.2.2.2
      let p16 ← onArgs (k0_part16 (F := F) i) r.1 r.2.1 r.2.2.1 r.2.2.2.1 r.2.2.2.2.1 r.2.2.2.2.2.1 r.2.2.2.2.2.2.1 r.2.2.2.2.2.2.2
      onArgs (k0_part17 (F := F) i) r.1 r.2.1 r.2.2.1 r.2.2.2.1 r.2.2.2.2.1 r.2.2.2.2.2.1 r.2.2.2.2.2.2.1 r.2.2.2.2.2.2.2 p16.1 p16.2
      onArgs (k0_part18 (F := F) i) r.1 r.2.1 r.2.2.1 r.2.2.2.1 r.2.2.2.2.1 r.2.2.2.2.2.1 r.2.2.2.2.2.2.1 r.2.2.2.2.2.2.2
      onArgs (k0_part19 (F := F) i) r.1 r.2.1 r.2.2.1 r.2.2.2.1 r.2.2.2.2.1 r.2.2.2.2.2.1 r.2.2.2.2.2.2.1 r.2.2.2.2.2.2.2
      onArgs (k0_part20 (F := F) i) r.1 r.2.1 r.2.2.1 r.2.2.2.1 r.2.2.2.2.1 r.2.2.2.2.2.1 r.2.2.2.2.2.2.1 r.2.2.2.2.2.2.2
      onArgs (k0_part21 (F := F) i) r.1 r.2.1 r.2.2.1 r.2.2.2.1 r.2.2.2.2.1 r.2.2.2.2.2.1 r.2.2.2.2.2.2.1 r.2.2.2.2.2.2.2
      onArgs (k0_part22 (F := F) i) r.1 r.2.1 r.2.2.1 r.2.2.2.1 r.2.2.2.2.1 r.2.2.2.2.2.1 r.2.2.2.2.2.2.1 r.2.2.2.2.2.2.2
      let p23 ← onArgs (k0_part23 (F := F) i) r.1 r.2.1 r.2.2.1 r.2.2.2.1 r.2.2.2.2.1 r.2.2.2.2.2.1 r.2.2.2.2.2.2.1 r.2.2.2.2.2.2.2
      onArgs (k0_part24 (F := F) i) r.1 r.2.1 r.2.2.1 r.2.2.2.1 r.2.2.2.2.1 r.2.2.2.2.2.1 r.2.2.2.2.2.2.1 r.2.2.2.2.2.2.2 p23.1 p23.2
      outStart i 37
      outWait i 35
      outWait i 36
      outWait i 37
      pure ⟨⟩) := rfl
  rw [h, part1]
  simp only [bind_assoc, pure_bind, part2, part3, part4, part5, part6, part7, part8, part9, part10, part11, part12, part13, part14, part15, part16, part17, part18, part19, part20, part21, part22, part23, part24]
  congr 1
  funext v
  have hl : chunks 0 38 ++ [Cmd.outWait 35, .outWait 36, .outWait 37] =
      [.inStart 2, .inWait 0] ++ [.loop 0, .outStart 0, .inStart 3, .inWait 1, .loop 1, .outStart 1, .inStart 4,
        .inWait 2, .loop 2, .outStart 2, .inStart 5, .inWait 3, .outWait 0, .loop 3, .outStart 3,
        .inStart 6, .inWait 4, .outWait 1, .loop 4, .outStart 4, .inStart 7, .inWait 5, .outWait 2,
        .loop 5, .outStart 5, .inStart 8, .inWait 6, .outWait 3, .loop 6, .outStart 6, .inStart 9,
        .inWait 7, .outWait 4, .loop 7, .outStart 7, .inStart 10, .inWait 8, .outWait 5, .loop 8,
        .outStart 8, .inStart 11, .inWait 9, .outWait 6, .loop 9, .outStart 9, .inStart 12, .inWait 10,
        .outWait 7, .loop 10, .outStart 10, .inStart 13, .inWait 11, .outWait 8, .loop 11, .outStart 11,
        .inStart 14, .inWait 12, .outWait 9, .loop 12, .outStart 12, .inStart 15, .inWait 13, .outWait 10,
        .loop 13, .outStart 13, .inStart 16, .inWait 14, .outWait 11, .loop 14, .outStart 14,
        .inStart 17, .inWait 15, .outWait 12, .loop 15, .outStart 15, .inStart 18, .inWait 16, .outWait 13, .loop 16,
        .outStart 16, .inStart 19, .inWait 17, .outWait 14, .loop 17, .outStart 17, .inStart 20,
        .inWait 18, .outWait 15, .loop 18, .outStart 18, .inStart 21, .inWait 19, .outWait 16, .loop 19,
        .outStart 19, .inStart 22, .inWait 20, .outWait 17, .loop 20, .outStart 20, .inStart 23, .inWait 21,
        .outWait 18, .loop 21, .outStart 21, .inStart 24, .inWait 22, .outWait 19, .loop 22, .outStart 22,
        .inStart 25, .inWait 23, .outWait 20, .loop 23, .outStart 23, .inStart 26, .inWait 24, .outWait 21,
        .loop 24, .outStart 24, .inStart 27, .inWait 25, .outWait 22, .loop 25, .outStart 25, .inStart 28,
        .inWait 26, .outWait 23, .loop 26, .outStart 26, .inStart 29, .inWait 27, .outWait 24, .loop 27,
        .outStart 27, .inStart 30, .inWait 28, .outWait 25, .loop 28, .outStart 28, .inStart 31,
        .inWait 29, .outWait 26, .loop 29, .outStart 29, .inStart 32, .inWait 30, .outWait 27, .loop 30,
        .outStart 30, .inStart 33, .inWait 31, .outWait 28, .loop 31, .outStart 31, .inStart 34, .inWait 32,
        .outWait 29, .loop 32, .outStart 32, .inStart 35, .inWait 33, .outWait 30, .loop 33, .outStart 33,
        .inStart 36, .inWait 34, .outWait 31, .loop 34, .outStart 34, .inStart 37, .inWait 35, .outWait 32,
        .loop 35, .outStart 35, .inWait 36, .outWait 33, .loop 36, .outStart 36, .inWait 37, .outWait 34, .loop 37,
        .outStart 37, .outWait 35, .outWait 36, .outWait 37] := rfl
  rw [hl]
  simp only [List.cons_append, List.nil_append, run, runR, exec, bind_assoc, pure_bind]
  simp only [part5, part9, part17, part24, run, runR, exec, bind_assoc, pure_bind]

end Cert.Proof.Bucket

end
-- ==== Proof.Bucket.Body.lean ====
/-
  The whole task of a tile, from its pieces of the input and the result, a share of the padded boundaries, its scoped
  buffers and its semaphores at zero: the pieces of the result end at the buckets of the input's values.
-/
module

public import proofs.«01_k».proof.Proof.Bucket.Tile
public import proofs.«01_k».proof.Proof.Bucket.Parts

@[expose] public section

noncomputable section

namespace Cert.Proof.Bucket

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-! ## The semaphores and buffers a tile owns -/

/-- The tile's semaphores: eight in, eight out, and the boundary copy's. -/
def semOf : (Fin 8 ⊕ Fin 8) ⊕ Unit → DmaSem sig
  | .inl (.inl κ) => inS κ
  | .inl (.inr κ) => outS κ
  | .inr _ => cc0_scoped0.sem

/-- The names name different semaphores. -/
theorem semOf_inj : Function.Injective semOf := by decide

/-- The counter of a name. -/
def cellOf (n : (Fin 8 ⊕ Fin 8) ⊕ Unit) : GSem nD τ sig := cell d L (semOf n)

/-- Different names have different counters. -/
theorem cellOf_injOn (s : Finset ((Fin 8 ⊕ Fin 8) ⊕ Unit)) : Set.InjOn (cellOf d L) s := fun a _ b _ h => by
  have h2 := congrArg Prod.snd h
  exact semOf_inj (by simpa [cellOf] using h2)

/-- They are the tile's own counters. -/
theorem cellOf_sub : Finset.univ.image (cellOf d L) ⊆ ownCells (thr d L) := by
  intro g hg
  obtain ⟨n, -, rfl⟩ := Finset.mem_image.mp hg
  refine mem_ownCells.mpr ⟨rfl, ?_⟩
  exact (show ∀ n, (SemLoc.dma (semOf n) : SemLoc sig).isScoped .scVector = true by decide) n

/-- All eight of one direction's semaphores, by slot. -/
theorem kinds_split (Φ : Fin 8 → sProp 𝕄) :
    bigSep Finset.univ Φ = iprop(bigSep (kinds 0) Φ ∗ bigSep (kinds 1) Φ ∗ bigSep (kinds 2) Φ) := by
  rw [show (Finset.univ : Finset (Fin 8)) = kinds 0 ∪ (kinds 1 ∪ kinds 2) by decide, SparseCore.bigSep_union' (by decide),
    SparseCore.bigSep_union' (by decide)]

/-- The tile's semaphores at zero are its copies' and the rest. -/
theorem ownSems0_V :
    (ownSems0 (thr d L) : sProp 𝕄)
      = iprop((((inSems d L (kinds 0) ∗ inSems d L (kinds 1) ∗ inSems d L (kinds 2))
          ∗ (outSems d L (kinds 0) ∗ outSems d L (kinds 1) ∗ outSems d L (kinds 2))) ∗ semVal (cell d L cc0_scoped0.sem) 0)
          ∗ bigSep (ownCells (thr d L) \ Finset.univ.image (cellOf d L)) fun g => semVal g 0) := by
  unfold SparseCore.Cfg.ownSems0
  rw [SparseCore.bigSep_sdiff_split' (cellOf_sub d L), SparseCore.bigSep_image_of_injOn (cellOf_injOn d L _), bigSep_univ_sum, bigSep_univ_sum,
    bigSep_univ_of_subsingleton (), kinds_split (F := F), kinds_split (F := F)]
  rfl

/-- The tile's buffers: three each way, and the boundaries'. -/
def refOf : (Fin 3 ⊕ Fin 3) ⊕ Unit → Ref sig .scVector
  | .inl (.inl 0) => cc0_scratch1
  | .inl (.inl 1) => cc0_scratch2
  | .inl (.inl 2) => cc0_scratch3
  | .inl (.inr 0) => cc0_scratch4
  | .inl (.inr 1) => cc0_scratch5
  | .inl (.inr 2) => cc0_scratch6
  | .inr _ => cc0_scratch0

/-- The names name different buffers. -/
theorem refOf_inj : Function.Injective refOf := by decide

/-- The buffer of a name, on its tile. -/
def devRefOf (n : (Fin 3 ⊕ Fin 3) ⊕ Unit) : DevRef τ sig := (Proc.scVector (cV L) (jV L)).devRef (refOf n)

/-- Different names have different buffers. -/
theorem devRefOf_injOn (s : Finset ((Fin 3 ⊕ Fin 3) ⊕ Unit)) : Set.InjOn (devRefOf L) s :=
  fun _ _ _ _ h => refOf_inj (Proc.devRef_injective _ h)

/-- They are the tile's own buffers. -/
theorem devRefOf_sub : Finset.univ.image (devRefOf L) ⊆ ownRefs (τ := τ) (.scVector (cV L) (jV L)) := by
  intro b hb
  obtain ⟨n, -, rfl⟩ := Finset.mem_image.mp hb
  refine SparseCore.Cfg.mem_ownRefs_of_owner (p := Proc.scVector (cV L) (jV L)) ?_
  match n with
  | .inl (.inl 0) | .inl (.inl 1) | .inl (.inl 2) | .inl (.inr 0) | .inl (.inr 1) | .inl (.inr 2) | .inr _ => rfl

/-- Of three: the first, the second and the third. -/
theorem three (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide),
    bigSep_singleton]

/-- The tile's buffer for the boundaries, whole. -/
abbrev bBuf (f : Buf (Elt F) ((bB).view.loc (thr d L))) : sProp 𝕄 := (bB).view.loc (thr d L) ↦{fullShare} f

/-- The tile's buffers are its staging buffers and the rest. -/
theorem ownBufs_V :
    (ownBufs (thr d L) : sProp 𝕄)
      = iprop(((((∃ f, xBuf d L 0 f) ∗ (∃ f, xBuf d L 1 f) ∗ (∃ f, xBuf d L 2 f))
          ∗ ((∃ f, oBuf d L 0 f) ∗ (∃ f, oBuf d L 1 f) ∗ (∃ f, oBuf d L 2 f))) ∗ (∃ f, bBuf d L f))
          ∗ bigSep (ownRefs (τ := τ) (.scVector (cV L) (jV L)) \ Finset.univ.image (devRefOf L))
              fun b => iprop(∃ f, ((d, b) : Loc nD τ sig) ↦{fullShare} f)) := by
  unfold SparseCore.Cfg.ownBufs
  refine (SparseCore.bigSep_sdiff_split' (devRefOf_sub L)).trans ?_
  rw [SparseCore.bigSep_image_of_injOn (devRefOf_injOn L _), bigSep_univ_sum, bigSep_univ_sum, bigSep_univ_of_subsingleton (), three, three]
  rfl

/-! ## The boundaries -/

abbrev vLoc : Loc nD τ sig := (SparseCore.T d).loc main_v0

/-- The padded boundaries, as the tile holds a share of them. -/
abbrev vPts (q : PosShare TreeShare) (w : Buf (Elt F) (vLoc d)) : sProp 𝕄 := vLoc d ↦{q} w

/-- The boundaries that a tile loads are those copied to it. -/
theorem load_eq (f : Buf (Elt F) ((bB).view.loc (thr d L))) (w : Buf (Elt F) (vLoc d)) :
    ((bB).access (Rect.unit (s := S16) ![0] S16.size inb_S16_S16_0)).read (Elt F) ((bB).view.write (Elt F) f ((bV).view.read (Elt F) w) Finset.univ) = w := by
  rw [View.write_whole_univ]
  funext j
  refine congrArg w ?_
  funext a
  match a with
  | ⟨0, _⟩ =>
    apply Fin.ext
    show 0 + 1 * (j 0).val = (j 0).val
    omega

variable (x : Buf (Elt F) (xLoc d)) (o o' : Buf (Elt F) (oLoc d)) (w : Buf (Elt F) (vLoc d)) (q : PosShare TreeShare)
variable (O : CellTallies nD τ sig (HIx 1)) (W : Waits sig (HIx 1))

/-- The state before the first chunk, from everything idle but the first two copies in. -/
theorem st_zero :
    iprop(XBusy d L x 0 ∗ XBusy d L x 1 ∗ XIdle d L 2 ∗ OIdle d L 0 ∗ OIdle d L 1 ∗ OIdle d L 2
        ∗ xPcs d L x (fun j => 2 ≤ j.val) ∗ oPcs d L o' (fun _ => True) ∗ OW d L O W)
      ⊢ St d L x o o' O W 0 := by
  iintro ⟨Hx0, Hx1, Hx2, Ho0, Ho1, Ho2, Hxs, Hos, HO⟩
  isplitl [Hx0]; · iapply (Entails.of_eq (XSt_lt d L x 0 (by decide)).symm); iexact Hx0
  isplitl [Hx1]; · iapply (Entails.of_eq (XSt_lt d L x 1 (by decide)).symm); iexact Hx1
  isplitl [Hx2]; · iexact Hx2
  isplitl [Hxs]
  · iapply (Entails.of_eq (pcs_congr (fun j => xPc d L x j) (fun j => 2 ≤ j.val) (fun j => j.val < 0 ∨ 0 + 2 ≤ j.val) (fun j => by simp)))
    iexact Hxs
  isplitl [Ho0]; · iapply (Entails.of_eq (OSt_idle d L o 0 (by decide)).symm); iexact Ho0
  isplitl [Ho1]; · iapply (Entails.of_eq (OSt_idle d L o 1 (by decide)).symm); iexact Ho1
  isplitl [Ho2]; · iapply (Entails.of_eq (OSt_idle d L o 2 (by decide)).symm); iexact Ho2
  isplitl [Hos]
  · iapply (Entails.of_eq (pcs_congr (fun j => oPc d L o' j) (fun _ => True) (fun j => 0 ≤ j.val) (fun j => by simp)))
    iexact Hos
  isplitr
  · iapply (Entails.of_eq (show (iprop(emp) : sProp 𝕄) = oPcs d L o (fun j => j.val + 3 < 0) by
      rw [oPcs, show (Finset.univ.filter fun j : Fin 38 => j.val + 3 < 0) = ∅ by decide, bigSep_empty]; rfl))
    iempintro
  iexact HO

/-- What comes before the chunks: the first two copies in started, the boundaries copied in and loaded. -/
theorem wp_prologue (hO : ∀ g, O g none = 0) {β : Type} (k : Vec F S16 .f32 → PT F L β) {Φ : β → sProp 𝕄} :
    iprop(levAts (K (F := F)).L (K (F := F)).lev ∗ XIdle d L 0 ∗ XIdle d L 1 ∗ xPc d L x 0 ∗ xPc d L x 1 ∗ (∃ f, bBuf d L f) ∗ vPts d q w
        ∗ semVal (cell d L cc0_scoped0.sem) 0 ∗ OW d L O W
        ∗ ((XBusy d L x 0 ∗ XBusy d L x 1 ∗ (∃ f, bBuf d L f) ∗ vPts d q w ∗ semVal (cell d L cc0_scoped0.sem) 0 ∗ OW d L O W)
            -∗ wp frame (wpE (defs₀ (F := F)) 𝒱₀ (thr d L) none) Set.univ (k w) Φ))
      ⊢ wp frame (wpE (defs₀ (F := F)) 𝒱₀ (thr d L) none) Set.univ (prologue L >>= k) Φ := by
  unfold prologue
  simp only [bind_assoc]
  iintro ⟨#Hlv, Hx0, Hx1, Hp0, Hp1, ⟨%f, Hb⟩, Hv, Hs, HO, HΦ⟩
  rw [wp_bind]
  iapply (wp_xStart d L x 0)
  isplitl [Hx0]; · iexact Hx0
  isplitl [Hp0]; · iexact Hp0
  iintro Hx0
  rw [wp_bind]
  iapply (wp_xStart d L x 1)
  isplitl [Hx1]; · iexact Hx1
  isplitl [Hp1]; · iexact Hp1
  iintro Hx1
  ihave Hv' := (Entails.of_eq (show (vPts d q w : sProp 𝕄) = ((bV).view.loc (thr d L) ↦[(bV).view.set]{q} w) by rw [show (bV).view.set = Finset.univ from View.set_whole _])) $$ Hv
  rw [wp_bind]
  iapply (Transfers.wp_dmaLocal countersEmb 𝒱₀ (thr d L) none (default : HIx 1) (bB).view.dmaCredit rfl
      (View.dmaCredit_pos _ (by decide)) (Finset.subset_univ _)) $$ [Hb Hv' Hs]
  · isplitl [Hv']; · iexact Hv'
    isplitl [Hb]; · iexact Hb
    iexact Hs
  iintro Hfl
  rw [wp_ret]
  imodintro
  rw [wp_bind]
  iapply (wp_wait d L O W hO)
  isplitl []; · iexact Hlv
  isplitl [Hfl]; · iexact Hfl
  isplitl [HO]; · iexact HO
  iintro ⟨⟨Hb, Hv⟩, Hs, HO⟩
  rw [wp_bind]
  iapply (wp_load_rect 𝒱₀ (thr d L) none Set.univ (m := bB) (r := Rect.unit (s := S16) ![0] S16.size inb_S16_S16_0) (Finset.subset_univ _)) $$ Hb
  iintro Hb
  rw [wp_ret]
  imodintro
  rw [load_eq]
  iapply HΦ
  isplitl [Hx0]; · iexact Hx0
  isplitl [Hx1]; · iexact Hx1
  isplitl [Hb]; · iexists _; iexact Hb
  isplitl [Hv]
  · iapply (Entails.of_eq (show (vPts d q w : sProp 𝕄) = ((bV).view.loc (thr d L) ↦[(bV).view.set]{q} w) by rw [show (bV).view.set = Finset.univ from View.set_whole _]).symm)
    iexact Hv
  isplitl [Hs]; · iexact Hs
  iexact HO

/-- The result at the boundaries the tile loads. -/
abbrev res (d : Dev nD) (x : Buf (Elt F) (xLoc d)) (w : Buf (Elt F) (vLoc d)) : Buf (Elt F) (oLoc d) := tgt d x (k0_pay2 w) (k0_pay3 w) (k0_pay4 w)

/-- A tile's pieces of the two arrays, all its chunks', and its share of the boundaries. -/
abbrev Pcs (o : Buf (Elt F) (oLoc d)) : sProp 𝕄 := iprop(xPcs d L x (fun _ => True) ∗ oPcs d L o (fun _ => True) ∗ vPts d q w)

/-- The task of tile `L` of device `d`. -/
theorem tile_body (hF : (K (F := F)).Facts) (hO : ∀ g, O g none = 0) :
    iprop(levAts (K (F := F)).L (K (F := F)).lev ∗ emp ∗ Pcs d L x w q o'
        ∗ scopedBufs (thr d L) ∗ scopedSems0 (thr d L) ∗ owes (thr d L) O W)
      ⊢ WP d L (onArgs (cc0__sc_body (F := F) L)) fun _ => iprop(Pcs d L x w q (res d x w)
            ∗ scopedBufs (thr d L) ∗ scopedSems0 (thr d L) ∗ ∃ W', ⌜∀ p ∈ W', p ∈ W ∨ p.2 = none⌝ ∗ owes (thr d L) O W') := by
  rw [body_eq, (K (F := F)).scopedBufs_V hF d (cV L) (jV L), SparseCore.Cfg.scopedSems0_V (Val := Elt F) d (cV L) (jV L), ownSems0_V, ownBufs_V]
  iintro ⟨#Hlv, -, ⟨Hxs, Hos, Hv⟩, ⟨⟨⟨⟨Hb0, Hb1, Hb2⟩, ⟨Hc0, Hc1, Hc2⟩⟩, Hbb⟩, Hbr⟩, ⟨⟨⟨⟨Hs0, Hs1, Hs2⟩, ⟨Ht0, Ht1, Ht2⟩⟩, Hss⟩, Hsr⟩, HO⟩
  ihave Hxs := (Entails.of_eq (pcs_insert (fun j => xPc d L x j) (fun _ => True) (fun j => 1 ≤ j.val) 0 (by decide) (by decide))) $$ Hxs
  icases Hxs with ⟨Hp0, Hxs⟩
  ihave Hxs := (Entails.of_eq (pcs_insert (fun j => xPc d L x j) (fun j => 1 ≤ j.val) (fun j => 2 ≤ j.val) 1 (by decide) (by decide))) $$ Hxs
  icases Hxs with ⟨Hp1, Hxs⟩
  iapply (wp_prologue d L x w q O W hO)
  isplitl []; · iexact Hlv
  isplitl [Hb0 Hs0]; · isplitl [Hb0]; (· iexact Hb0); iexact Hs0
  isplitl [Hb1 Hs1]; · isplitl [Hb1]; (· iexact Hb1); iexact Hs1
  isplitl [Hp0]; · iexact Hp0
  isplitl [Hp1]; · iexact Hp1
  isplitl [Hbb]; · iexact Hbb
  isplitl [Hv]; · iexact Hv
  isplitl [Hss]; · iexact Hss
  isplitl [HO]
  · iexists W
    isplitr
    · ipureintro; exact fun p hp => .inl hp
    · iexact HO
  iintro ⟨Hx0, Hx1, Hbb, Hv, Hss, HO⟩
  iapply (wp_all d L x o' (k0_pay2 w) (k0_pay3 w) (k0_pay4 w) O W hO)
  isplitl []; · iexact Hlv
  isplitl [Hx0 Hx1 Hb2 Hs2 Hc0 Hc1 Hc2 Ht0 Ht1 Ht2 Hxs Hos HO]
  · iapply (st_zero d L x _ o' O W)
    isplitl [Hx0]; · iexact Hx0
    isplitl [Hx1]; · iexact Hx1
    isplitl [Hb2 Hs2]; · isplitl [Hb2]; (· iexact Hb2); iexact Hs2
    isplitl [Hc0 Ht0]; · isplitl [Hc0]; (· iexact Hc0); iexact Ht0
    isplitl [Hc1 Ht1]; · isplitl [Hc1]; (· iexact Hc1); iexact Ht1
    isplitl [Hc2 Ht2]; · isplitl [Hc2]; (· iexact Hc2); iexact Ht2
    isplitl [Hxs]; · iexact Hxs
    isplitl [Hos]; · iexact Hos
    iexact HO
  iintro ⟨⟨Hb0, Hs0⟩, ⟨Hb1, Hs1⟩, ⟨Hb2, Hs2⟩, ⟨Hc0, Ht0⟩, ⟨Hc1, Ht1⟩, ⟨Hc2, Ht2⟩, Hxs, Hos, HO⟩
  isplitl [Hxs Hos Hv]
  · isplitl [Hxs]; · iexact Hxs
    isplitl [Hos]; · iexact Hos
    iexact Hv
  isplitl [Hb0 Hb1 Hb2 Hc0 Hc1 Hc2 Hbb Hbr]
  · isplitr [Hbr]
    · isplitr [Hbb]
      · isplitl [Hb0 Hb1 Hb2]
        · isplitl [Hb0]; · iexact Hb0
          isplitl [Hb1]; · iexact Hb1
          iexact Hb2
        · isplitl [Hc0]; · iexact Hc0
          isplitl [Hc1]; · iexact Hc1
          iexact Hc2
      · iexact Hbb
    · iexact Hbr
  isplitl [Hs0 Hs1 Hs2 Ht0 Ht1 Ht2 Hss Hsr]
  · isplitr [Hsr]
    · isplitr [Hss]
      · isplitl [Hs0 Hs1 Hs2]
        · isplitl [Hs0]; · iexact Hs0
          isplitl [Hs1]; · iexact Hs1
          iexact Hs2
        · isplitl [Ht0]; · iexact Ht0
          isplitl [Ht1]; · iexact Ht1
          iexact Ht2
      · iexact Hss
    · iexact Hsr
  iexact HO

end Cert.Proof.Bucket

end
-- ==== Proof.Bucket.Pieces.lean ====
/-
  The two arrays cut into the tiles' chunks: 2 × 16 tiles of 38 chunks each, disjoint and covering, so that an array
  held whole is its pieces held together; and a buffer's full share cut into read shares, one a tile.
-/
module

public import proofs.«01_k».proof.Proof.Bucket.Body

@[expose] public section

noncomputable section

namespace Cert.Proof.Bucket

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Tiles and chunks -/

/-- The coordinates of vector subcore `s` of SparseCore `c`. -/
def tile (c : Fin (grid0.bound 0)) (s : Fin (grid0.bound 1)) : grid0.Coords :=
  fun | 0 => c | 1 => s | ⟨_ + 2, h⟩ => absurd h (Nat.not_lt.2 (Nat.le_add_left _ _))

/-- A piece's index: SparseCore, subcore, chunk. -/
abbrev PIx : Type := Fin 2 × Fin 16 × Fin 38

abbrev tl (c : Fin 2) (s : Fin 16) : grid0.Coords := tile c s

/-- Where the block of tile `s` of SparseCore `c` starts. -/
theorem base_tl (c : Fin 2) (s : Fin 16) : base (tl c s) = (2 * s.val + c.val) * 524288 := rfl

/-- The elements of piece `p`, in the input and, the same, in the result. -/
abbrev pSet (p : PIx) : Finset S16777216.Idx := (hRect (tl p.1 p.2.1) p.2.2).set

/-- An element is in a piece when its number lies between the piece's ends. -/
theorem mem_pSet (p : PIx) (j : S16777216.Idx) :
    j ∈ pSet p ↔ (2 * p.2.1.val + p.1.val) * 524288 + off p.2.2 ≤ (j 0).val
      ∧ (j 0).val < (2 * p.2.1.val + p.1.val) * 524288 + off p.2.2 + sz p.2.2 := by
  have h0 : k0_off6 (tl p.1 p.2.1) (BitVec.ofNat 32 (off p.2.2)) 0 = base (tl p.1 p.2.1) + off p.2.2 := congrFun (off_eq _ _) 0
  rw [Rect.mem_set_unit, ← base_tl, ← h0]
  constructor
  · intro h; exact h 0
  · intro h a
    match a with
    | ⟨0, _⟩ => exact h

/-- A chunk ends before any later one starts. -/
theorem off_lt : ∀ k k' : Fin 38, k < k' → off k + sz k ≤ off k' := by decide
/-- A chunk starts where the one before it ends. -/
theorem off_step : ∀ k : Fin 37, off ⟨k.val + 1, Nat.succ_lt_succ k.isLt⟩
    = off ⟨k.val, Nat.lt_succ_of_lt k.isLt⟩ + sz ⟨k.val, Nat.lt_succ_of_lt k.isLt⟩ := by decide
/-- A chunk starts where the one before it ends, the numbers written out. -/
theorem off_succ (k : ℕ) (h : k + 1 < 38) : off ⟨k + 1, h⟩ = off ⟨k, by omega⟩ + sz ⟨k, by omega⟩ :=
  off_step ⟨k, by omega⟩
/-- The last chunk ends where the block does. -/
theorem off_last : off ⟨37, by decide⟩ + sz ⟨37, by decide⟩ = 524288 := by decide

/-- Two pieces have no element in common. -/
theorem pSet_disjoint (p p' : PIx) (h : p ≠ p') : Disjoint (pSet p) (pSet p') := by
  rw [Finset.disjoint_left]
  intro j hj hj'
  rw [mem_pSet] at hj hj'
  obtain ⟨c, s, k⟩ := p
  obtain ⟨c', s', k'⟩ := p'
  simp only at hj hj'
  have hk := off_sz_le k
  have hk' := off_sz_le k'
  have hc := c.isLt
  have hc' := c'.isLt
  have e : 2 * s.val + c.val = 2 * s'.val + c'.val := by omega
  have es : s = s' := Fin.ext (by omega)
  have ec : c = c' := Fin.ext (by omega)
  subst es ec
  have : k ≠ k' := fun ek => h (by rw [ek])
  rcases lt_or_gt_of_ne this with hlt | hlt
  · have := off_lt _ _ hlt; omega
  · have := off_lt _ _ hlt; omega

/-- Every place of a tile's block lies in a chunk. -/
theorem chunk_of (r : ℕ) : ∀ (n : ℕ) (hn : n < 38), r < off ⟨n, hn⟩ + sz ⟨n, hn⟩ → ∃ k, off k ≤ r ∧ r < off k + sz k := by
  intro n
  induction n with
  | zero => intro hn h; exact ⟨⟨0, hn⟩, Nat.zero_le _, h⟩
  | succ n ih =>
    intro hn h
    by_cases h' : off ⟨n + 1, hn⟩ ≤ r
    · exact ⟨_, h', h⟩
    · exact ih (by omega) (by rw [off_succ n hn] at h'; omega)

/-- Every element lies in some piece. -/
theorem exists_piece (j : S16777216.Idx) : ∃ p : PIx, j ∈ pSet p := by
  have hj : (j 0).val < 16777216 := (j 0).isLt
  generalize hn : (j 0).val = n at hj
  obtain ⟨k, hk, hk'⟩ := chunk_of (n % 524288) 37 (by decide) (by
    rw [off_last]; exact Nat.mod_lt n (by decide))
  refine ⟨(⟨n / 524288 % 2, Nat.mod_lt _ (by decide)⟩, ⟨n / 524288 / 2, by omega⟩, k), ?_⟩
  rw [mem_pSet, hn]
  simp only
  omega

/-- The pieces together are the whole array. -/
theorem pSet_cover : (Finset.univ : Finset PIx).biUnion pSet = Finset.univ := by
  ext j
  have h := exists_piece j
  simp only [Finset.mem_biUnion, Finset.mem_univ, true_and, iff_true]
  exact h

/-- A family over the pieces, by SparseCore, subcore and chunk. -/
theorem bigSep_pieces (Φ : PIx → sProp 𝕄) :
    bigSep Finset.univ Φ = bigSep Finset.univ fun c : Fin 2 => bigSep Finset.univ fun s : Fin 16 => bigSep Finset.univ fun k : Fin 38 => Φ (c, s, k) := by
  rw [bigSep_univ_prod]
  exact bigSep_congr fun c _ => bigSep_univ_prod _

variable [FloatOps F] (d : Dev nD)

/-- The input whole is the tiles' pieces of it; the result likewise. -/
theorem x_pieces (x : Buf (Elt F) (xLoc d)) :
    (xLoc d ↦{fullShare} x : sProp 𝕄)
      = bigSep Finset.univ fun c : Fin 2 => bigSep Finset.univ fun s : Fin 16 => xPcs d (tl c s) x (fun _ => True) := by
  have h := pointsTo_biUnion (Val := Elt F) (Ix := HIx 1) (Name := ℕ) (U := UU) (Lvl := ℕ) (ℓ := xLoc d) (q := fullShare) (f := x)
    Finset.univ pSet (fun p _ p' _ => pSet_disjoint p p')
  rw [pSet_cover, bigSep_pieces] at h
  refine h.trans (bigSep_congr fun c _ => bigSep_congr fun s _ => ?_)
  rw [xPcs, Finset.filter_true]
  refine bigSep_congr fun k _ => ?_
  unfold xPc
  rw [show (xH (tl c s) k).view.set = pSet (c, s, k) from (View.set_slice _ _).trans Finset.map_refl]
/-- The result, whole, is its pieces, tile by tile. -/
theorem o_pieces (o : Buf (Elt F) (oLoc d)) :
    (oLoc d ↦{fullShare} o : sProp 𝕄)
      = bigSep Finset.univ fun c : Fin 2 => bigSep Finset.univ fun s : Fin 16 => oPcs d (tl c s) o (fun _ => True) := by
  have h := pointsTo_biUnion (Val := Elt F) (Ix := HIx 1) (Name := ℕ) (U := UU) (Lvl := ℕ) (ℓ := oLoc d) (q := fullShare) (f := o)
    Finset.univ pSet (fun p _ p' _ => pSet_disjoint p p')
  rw [pSet_cover, bigSep_pieces] at h
  refine h.trans (bigSep_congr fun c _ => bigSep_congr fun s _ => ?_)
  rw [oPcs, Finset.filter_true]
  refine bigSep_congr fun k _ => ?_
  unfold oPc
  rw [show (oH (tl c s) k).view.set = pSet (c, s, k) from (View.set_slice _ _).trans Finset.map_refl]

/-! ## Read shares -/

/-- Any share serves any finite family of readers, each with a share of its own. -/
theorem shares {ι : Type} [DecidableEq ι] (s : Finset ι) : ∀ q : PosShare TreeShare, ∃ sh : ι → PosShare TreeShare,
    ∀ w : Buf (Elt F) (vLoc d), (vPts d q w : sProp 𝕄) ⊢ bigSep s fun i => vPts d (sh i) w := by
  induction s using Finset.induction_on with
  | empty =>
    intro q
    refine ⟨fun _ => q, fun w => ?_⟩
    rw [bigSep_empty]
    iintro _
    iempintro
  | insert a s ha ih =>
    intro q
    obtain ⟨sh, hsh⟩ := ih q.right
    refine ⟨Function.update sh a q.left, fun w => ?_⟩
    refine (pointsTo_share (PosShare.mem_left_op_right q)).1.trans ?_
    rw [SparseCore.bigSep_insert' ha, Function.update_self,
      bigSep_congr (Ψ := fun i => vPts d (sh i) w) fun i hi => by rw [Function.update_of_ne (by rintro rfl; exact ha hi)]]
    iintro ⟨H, H'⟩
    isplitl [H]; · iexact H
    iapply (hsh w); iexact H'

/-- A tile's read share of the boundaries. -/
def vq (F : FTy → Type) [FloatOps F] (d : Dev nD) : Fin 2 × Fin 16 → PosShare TreeShare :=
  (shares (F := F) d (Finset.univ : Finset (Fin 2 × Fin 16)) fullShare).choose

/-- The padded boundaries, whole, give every tile its share to read. -/
theorem v_shares (w : Buf (Elt F) (vLoc d)) :
    (vPts d fullShare w : sProp 𝕄)
      ⊢ bigSep Finset.univ fun c : Fin 2 => bigSep Finset.univ fun s : Fin 16 => vPts d (vq F d (c, s)) w := by
  rw [← bigSep_univ_prod (fun p : Fin 2 × Fin 16 => vPts d (vq F d p) w)]
  exact (shares (F := F) d (Finset.univ : Finset (Fin 2 × Fin 16)) fullShare).choose_spec w

end Cert.Proof.Bucket

end
-- ==== Proof.Bucket.Launch.lean ====
/-
  The whole program's run, over any float values: @main pads the boundaries, hands every tile its pieces of the input and
  of the result and a read share of the padded boundaries, and takes the pieces back. It ends with both arguments
  unchanged, the result at each element's bucket, and every semaphore counter at zero.
-/
module

public import proofs.«01_k».proof.Proof.Bucket.Pieces

@[expose] public section

noncomputable section

namespace Cert.Proof.Bucket

open Cert.KernelIdeal Cert.KernelIdeal.Gen
open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The launch's set-up -/

abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

/-- The launch's signals are of the kinds that the handshakes ask for. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F] (m : (ℓ : Loc nD τ sig) → Buf (Elt F) ℓ) (ρ : Dev nD → PrngReg)

abbrev aLoc (d : Dev nD) : Loc nD τ sig := (SparseCore.T d).loc main_arg1

/-- The boundaries as the tiles read them: the three given ones, padded with zeros to sixteen. -/
def padded (b : Vec F S3 .f32) : Vec F S16 .f32 :=
  pad S16 ![0] ![13] ![0] b (sitofp .f32 (constantI S_ 32 0#32)) pads_S3_S16_0130 h_S_

/-- What the padded boundaries' array holds when the tiles start. -/
def w (d : Dev nD) : Buf (Elt F) (vLoc d) := padded (F := F) (m (aLoc d))

/-- What a tile takes: its pieces of the input and of the result, at their launch contents, and its share of the
    boundaries. -/
abbrev goes (d : Dev nD) (c : Fin 2) (s : Fin 16) : sProp 𝕄 :=
  Pcs d (tl c s) (m (xLoc d)) (w m d) (vq F d (c, s)) (m (oLoc d))
/-- What a tile brings back: the same, its pieces of the result at their buckets. -/
abbrev comes (d : Dev nD) (c : Fin 2) (s : Fin 16) : sProp 𝕄 :=
  Pcs d (tl c s) (m (xLoc d)) (w m d) (vq F d (c, s)) (res d (m (xLoc d)) (w m d))

/-- What the call's handshakes carry: a SparseCore takes its sixteen tiles' operands, and brings theirs back. -/
def P : (K (F := F)).Pay (nD := nD) (Val := Elt F) (Name := ℕ) (U := UU) where
  st := fun q d c => match q, c with | 0, c => bigSep Finset.univ fun s : Fin 16 => goes m d c s
  dn := fun q d c => match q, c with | 0, c => bigSep Finset.univ fun s : Fin 16 => comes m d c s
  go := fun q d c s => match q, c, s with | 0, c, s => goes m d c s
  td := fun q d c s => match q, c, s with | 0, c, s => comes m d c s
  x := fun _ _ => iprop(emp)

instance P_storable : (P (F := F) m).IsStorable where
  st q d c := match q, c with
    | 0, c => (inferInstance : BI.Storable (upEmb : UEmb _ 𝕄) (bigSep Finset.univ fun s : Fin 16 => goes m d c s))
  dn q d c := match q, c with
    | 0, c => (inferInstance : BI.Storable (upEmb : UEmb _ 𝕄) (bigSep Finset.univ fun s : Fin 16 => comes m d c s))
  go q d c s := match q, c, s with
    | 0, c, s => (inferInstance : BI.Storable (upEmb : UEmb _ 𝕄) (goes m d c s))
  td q d c s := match q, c, s with
    | 0, c, s => (inferInstance : BI.Storable (upEmb : UEmb _ 𝕄) (comes m d c s))

/-! ## The tiles' obligation -/

/-- What a vector subcore runs: the kernel's body at its tile. -/
theorem defs₀_vector (c : Fin τ.nSC) (s : Fin τ.nSub) :
    defs₀ (F := F) (.scVector c s) 0 () = SparseCore.onTile hcore0 hsub0 (fun c s => onArgs (cc0__sc_body (F := F) (tile c s))) ⟨⟩ c s := rfl

/-- The body's waits are among those that a task may leave. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile meets its obligation: from what it is sent it runs the body and hands back what is expected. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (tile ⟨_, hci.1⟩ ⟨_, hci.2⟩) (m (xLoc d)) (m (oLoc d)) (w m d) (vq F d (⟨_, hci.1⟩, ⟨_, hci.2⟩)) O W facts hO).trans
    (wp_mono frame _ _ fun _ => obl_post)

/-- What a SparseCore is sent is what its tiles are sent, and what they hand back is what it hands back. -/
theorem vecSplit : (K (F := F)).VecSplit' (P m) 0 := by
  intro d c
  show (bigSep Finset.univ fun s : Fin 16 => goes m d c s) ⊢ |={Set.univ}=> iprop(
      (bigSep Finset.univ fun s : Fin 16 => goes m d c s)
      ∗ ((bigSep Finset.univ fun s : Fin 16 => comes m d c s) -∗ bigSep Finset.univ fun s : Fin 16 => comes m d c s))
  iintro H; imodintro
  isplitl [H]; · iexact H
  iintro H; iexact H

/-! ## The launch element -/

/-- The ghost state at the start: the handshakes' tokens. -/
def u₀ : UU := (initOf (K (F := F)).hsCells (K (F := F)).hsToks, 1)

/-- Nothing, however often, is nothing. -/
theorem bigSep_none {I : Type} (s : Finset I) : (bigSep s fun _ => iprop(emp)) = (iprop(emp) : sProp 𝕄) := bigSep_emp_const s

/-- The ghost state at the start covers the handshakes, and the tiles need none of their own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## @main's arrays and its host operations -/

abbrev x' : DevRef τ sig := Proc.devRef .tc (main_arg0 : Ref sig .tc)
abbrev a' : DevRef τ sig := Proc.devRef .tc (main_arg1 : Ref sig .tc)
abbrev z' : DevRef τ sig := Proc.devRef .tc (main_c : Ref sig .tc)
abbrev y' : DevRef τ sig := Proc.devRef .tc (main_call0_v0 : Ref sig .tc)
abbrev v' : DevRef τ sig := Proc.devRef .tc (main_v0 : Ref sig .tc)
abbrev o' : DevRef τ sig := Proc.devRef .tc (main_v1 : Ref sig .tc)
abbrev S6 : Finset (DevRef τ sig) := {x', a', z', y', v', o'}

/-- The six arrays of the host code, one by one. -/
theorem held_S6 (d : Dev nD) (W : Valuation τ sig (Elt F)) :
    (held (T d) S6 W : sProp 𝕄) = iprop((xLoc d ↦{fullShare} W x') ∗ (aLoc d ↦{fullShare} W a')
      ∗ ((SparseCore.T d).loc main_c ↦{fullShare} W z') ∗ ((SparseCore.T d).loc main_call0_v0 ↦{fullShare} W y') ∗ (vLoc d ↦{fullShare} W v') ∗ oLoc d ↦{fullShare} W o') := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

/-- The arrays at the start are those six. -/
theorem unscoped_held (d : Dev nD) : (unscopedBufs d (fun b => m ((SparseCore.T d).loc b)) : sProp 𝕄) = held (T d) S6 (V0 m d) := by
  rw [held_S6]
  unfold unscopedBufs
  rw [show (Finset.univ.filter fun b : Ref sig .tc => ¬ b.isScoped) = {main_arg0, main_arg1, main_c, main_call0_v0, main_v0, main_v1} by decide,
    SparseCore.bigSep_insert' (by decide), SparseCore.bigSep_insert' (by decide), SparseCore.bigSep_insert' (by decide),
    SparseCore.bigSep_insert' (by decide), SparseCore.bigSep_insert' (by decide), bigSep_singleton]
  rfl

abbrev op1 : HloOp τ sig (Elt F) := StableHlo.nullary main_c (constantI S_ 32 0#32)
abbrev op2 : HloOp τ sig (Elt F) := StableHlo.TRef.unary (.of main_c : StableHlo.TRef sig ⟨S_, .i32⟩) main_call0.v0 (sitofp .f32)
abbrev op3 : HloOp τ sig (Elt F) := StableHlo.TRef.binary (.of main_arg1 : StableHlo.TRef sig ⟨S3, .f32⟩) main_call0.v0 main_call0.v1
  (fun x v => pad S16 ![0] ![13] ![0] x v pads_S3_S16_0130 h_S_)

/-- The arrays after the host operations. -/
abbrev V3 (d : Dev nD) : Valuation τ sig (Elt F) := StableHlo.after [op1, op2, op3] (V0 m d)

/-- The host operations leave the values as they were, -/
theorem V3_x (d : Dev nD) : V3 m d x' = m (xLoc d) := by
  unfold V3; after_results; rfl
/-- and the boundaries, -/
theorem V3_a (d : Dev nD) : V3 m d a' = m (aLoc d) := by
  unfold V3; after_results; rfl
/-- and the result's array; -/
theorem V3_o (d : Dev nD) : V3 m d o' = m (oLoc d) := by
  unfold V3; after_results; rfl
/-- and put the padded boundaries into the kernel's operand. -/
theorem V3_v (d : Dev nD) : V3 m d v' = w m d := by
  unfold V3; after_results; rfl

/-- The first host operation's arrays are among the six. -/
theorem bufs1 : (op1 (F := F)).bufs ⊆ S6 := show ({z'} : Finset (DevRef τ sig)) ⊆ S6 by decide
/-- So are the second's. -/
theorem bufs2 : (op2 (F := F)).bufs ⊆ S6 := show ({z', y'} : Finset (DevRef τ sig)) ⊆ S6 by decide
/-- So are the third's. -/
theorem bufs3 : (op3 (F := F)).bufs ⊆ S6 := show ({a', y', v'} : Finset (DevRef τ sig)) ⊆ S6 by decide

/-! ## @main -/

/-- A family over tiles of three things is three families. -/
theorem three_families (A B C : Fin 2 → Fin 16 → sProp 𝕄) :
    (bigSep Finset.univ fun c => bigSep Finset.univ fun s => iprop(A c s ∗ B c s ∗ C c s))
      = iprop((bigSep Finset.univ fun c => bigSep Finset.univ (A c)) ∗ (bigSep Finset.univ fun c => bigSep Finset.univ (B c))
        ∗ bigSep Finset.univ fun c => bigSep Finset.univ (C c)) := by
  rw [← bigSep_sep', ← bigSep_sep']
  refine bigSep_congr fun c _ => ?_
  rw [← bigSep_sep', ← bigSep_sep']

/-- What the call takes: the input, the result's array and the boundaries. -/
theorem st_intro (d : Dev nD) : iprop((xLoc d ↦{fullShare} m (xLoc d)) ∗ (oLoc d ↦{fullShare} m (oLoc d)) ∗ vPts d fullShare (w m d))
    ⊢ (bigSep Finset.univ fun c : Fin ((K (F := F)).nCore 0) => (P m).st 0 d c : sProp 𝕄) := by
  show _ ⊢ (bigSep Finset.univ fun c : Fin 2 => bigSep Finset.univ fun s : Fin 16 => goes m d c s)
  rw [three_families, x_pieces, o_pieces]
  iintro ⟨Hx, Ho, Hv⟩
  isplitl [Hx]; · iexact Hx
  isplitl [Ho]; · iexact Ho
  iapply (v_shares d (w m d)); iexact Hv

/-- What the call gives back: the input unchanged, the result at the buckets. -/
theorem dn_elim (d : Dev nD) : (bigSep Finset.univ fun c : Fin ((K (F := F)).nCore 0) => (P m).dn 0 d c : sProp 𝕄)
    ⊢ iprop((xLoc d ↦{fullShare} m (xLoc d)) ∗ (oLoc d ↦{fullShare} res d (m (xLoc d)) (w m d))) := by
  show (bigSep Finset.univ fun c : Fin 2 => bigSep Finset.univ fun s : Fin 16 => comes m d c s) ⊢ _
  rw [three_families, x_pieces, o_pieces]
  iintro ⟨Hx, Ho, -⟩
  isplitl [Hx]; · iexact Hx
  iexact Ho

/-- What @main leaves: both arguments at their launch contents, the result at the buckets. -/
abbrev FIN (d : Dev nD) : sProp 𝕄 := iprop((xLoc d ↦{fullShare} m (xLoc d)) ∗ (aLoc d ↦{fullShare} m (aLoc d))
  ∗ (oLoc d ↦{fullShare} res d (m (xLoc d)) (w m d)))

/-- The host code: it pads the boundaries, runs the kernel, and ends with the arguments as they were and the results in place. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (T d) none Set.univ (op := op1) (S := S6) bufs1 (V := V0 m d)) $$ [Hb Hheld]
  · isplitl [Hb] <;> iassumption
  iintro ⟨Hb, Hheld⟩
  rw [wp_ret]; imodintro
  iapply (wp_hlo_within 𝒱 (T d) none Set.univ (op := op2) (S := S6) bufs2 (V := op1.result (V0 m d))) $$ [Hb Hheld]
  · isplitl [Hb] <;> iassumption
  iintro ⟨Hb, Hheld⟩
  rw [wp_ret]; imodintro
  iapply (wp_hlo_within 𝒱 (T d) none Set.univ (op := op3) (S := S6) bufs3 (V := op2.result (op1.result (V0 m d)))) $$ [Hb Hheld]
  · isplitl [Hb] <;> iassumption
  iintro ⟨Hb, Hheld⟩
  rw [wp_ret]; imodintro
  ihave Hh := (Entails.of_eq (show (held (T d) S6 (op3.result (op2.result (op1.result (V0 m d)))) : sProp 𝕄) = _ from held_S6 d (V3 m d))) $$ Hheld
  rw [V3_x, V3_a, V3_v, V3_o]
  icases Hh with ⟨Hx, Ha, -, -, Hv, Ho⟩
  imodintro
  iapply ((K (F := F)).wp_run (D (F := F)) 𝒱 (EH := EH) (P := P m) κ d 0) $$ [Hst Hx Ha Ho Hv Hb Hts]
  isplitr; · iexact Hctx
  isplitl [Hst]; · iexact Hst
  isplitl [Hx Ho Hv]
  · iapply (st_intro m d)
    isplitl [Hx]; · iexact Hx
    isplitl [Ho]; · iexact Ho
    iexact Hv
  iintro ⟨Hst, Hdn⟩
  ihave Hdn' := (dn_elim m d) $$ Hdn
  icases Hdn' with ⟨Hx, Ho⟩
  imodintro
  isplitl [Hst]; · iexact Hst
  isplitr [Hb Hts]
  · isplitl [Hx]; · iexact Hx
    isplitl [Ha]; · iexact Ha
    iexact Ho
  isplitl [Hb] <;> iassumption

/-! ## The run -/

/-- The end of a run on a device. -/
def fq (d : Dev nD) (s' : Phys nD τ sig (Elt F)) : Prop :=
  s'.mem.mem (xLoc d) = m (xLoc d) ∧ s'.mem.mem (aLoc d) = m (aLoc d) ∧ s'.mem.mem (oLoc d) = res d (m (xLoc d)) (w m d)

/-- A buffer held whole is what memory holds. -/
theorem agree (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

/-- What the host code ends with says what the final memory holds. -/
theorem hfin (d : Dev nD) (s' : Phys nD τ sig (Elt F)) : iprop(FIN m d ∗ SI s') ⊢ (⌜fq m d s'⌝ : sProp 𝕄) := by
  iintro ⟨⟨Hx, Ha, Ho⟩, HSI⟩
  ihave H := (agree s' (xLoc d) _) $$ [HSI Hx]; · isplitl [HSI] <;> iassumption
  icases H with ⟨%h1, HSI⟩
  ihave H := (agree s' (aLoc d) _) $$ [HSI Ha]; · isplitl [HSI] <;> iassumption
  icases H with ⟨%h2, HSI⟩
  ihave H := (agree s' (oLoc d) _) $$ [HSI Ho]; · isplitl [HSI] <;> iassumption
  icases H with ⟨%h3, HSI⟩
  ipureintro; exact ⟨h1, h2, h3⟩

/-- The end of a run: on every device both arguments unchanged and the result at the buckets, and every semaphore counter
    at zero. -/
def QC : PUnit × MemSt nD τ sig (Elt F) → Prop := fun r =>
  (∀ d : Dev nD, r.2.mem (xLoc d) = m (xLoc d) ∧ r.2.mem (aLoc d) = m (aLoc d) ∧ r.2.mem (oLoc d) = res d (m (xLoc d)) (w m d))
    ∧ r.2.sem = fun _ => 0

/-- The whole run, over any float values: it terminates, with the arguments unchanged, the result the bucket of every value, and every counter zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Bucket

end
-- ==== Proof.Bucket.Value.lean ====
/-
  The equation. The reference counts, for each input value, the boundaries that lie at or below it; the kernel looks the
  count up by comparing with the middle boundary first. Over the extended reals the two agree wherever the boundaries are
  in order.
-/
module

public import proofs.«01_k».proof.Proof.Bucket.Launch
public import proofs.«01_k».proof.Proof.Gen.ReferenceIdeal.Run
public import proofs.«01_k».proof.Proof.Gen.Pre_is_sorted
public import proofs.«01_k».proof.Pre_is_sorted
public import Idealize.ShloMosaic.PureOps.Ideal
public import Idealize.ShloMosaic.PureOps.Ideal.Laws
public import Idealize.ShloMosaic.PureOps.Reduce
public import Idealize.ShloMosaic.Lib.KernelVsHost
public import Idealize.ShloMosaic.Lib.ValueIdx
public import Idealize.ShloMosaic.Lib.Pointwise.Reduce

@[expose] public section

noncomputable section

namespace Cert.Proof.Bucket

open Idealize.ShloMosaic

/-! ## What the tiles read of the padded boundaries -/

section Kernel

open Cert.KernelIdeal Cert.KernelIdeal.Gen

variable {F : FTy → Type} [FloatOps F]

/-- The padded boundaries at the three given places. -/
theorem padded_apply (b : Vec F S3 .f32) (k : Fin 3) : padded b (ix1 ⟨k.val, Nat.lt_trans k.isLt (by decide)⟩) = b (ix1 k) :=
  pad_apply_of_inside _ _ _ b _ pads_S3_S16_0130 h_S_ _ (ix1 k) fun a => by
    match a with
    | ⟨0, _⟩ => show k.val = 0 + k.val * (0 + 1); omega

/-- The first boundary that a tile reads is the first boundary. -/
theorem first_boundary (b : Vec F S3 .f32) : k0_pay2 (padded b) = b (ix1 0) := by
  refine Eq.trans ?_ (padded_apply b 0)
  unfold k0_pay2 k0_pay1
  rw [shapeCast_self]
  unfold extractAt extractStridedSlice
  refine congrArg (padded b) (funext fun a => Fin.ext ?_)
  match a with
  | ⟨0, _⟩ => rfl
/-- The second is the second. -/
theorem second_boundary (b : Vec F S3 .f32) : k0_pay3 (padded b) = b (ix1 1) := by
  refine Eq.trans ?_ (padded_apply b 1)
  unfold k0_pay3 k0_pay1
  rw [shapeCast_self]
  unfold extractAt extractStridedSlice
  refine congrArg (padded b) (funext fun a => Fin.ext ?_)
  match a with
  | ⟨0, _⟩ => rfl
/-- The third is the third. -/
theorem third_boundary (b : Vec F S3 .f32) : k0_pay4 (padded b) = b (ix1 2) := by
  refine Eq.trans ?_ (padded_apply b 2)
  unfold k0_pay4 k0_pay1
  rw [shapeCast_self]
  unfold extractAt extractStridedSlice
  refine congrArg (padded b) (funext fun a => Fin.ext ?_)
  match a with
  | ⟨0, _⟩ => rfl

end Kernel

/-! ## What the reference computes -/

section Reference

open Cert.ReferenceIdeal Cert.ReferenceIdeal.Gen

variable {F : FTy → Type} [FloatOps F]

/-- The reference's result: the comparisons of every value with every boundary, summed along the boundaries. -/
def counts (x : Vec F S16777216 .f32) (b : Vec F S3 .f32) : IVec S16777216 32 :=
  Host.reduce IntOp.addi (extui 32 (cmpf .oge
      (broadcastInDim S16777216x3 ![0, 1] bcast_S16777216x1_S16777216x3_0_1 (broadcastInDim S16777216x1 ![0] bcast_S16777216_S16777216x1_0 x))
      (broadcastInDim S16777216x3 ![0, 1] bcast_S1x3_S16777216x3_0_1 (broadcastInDim S1x3 ![1] bcast_S3_S1x3_1 b))) natLt_1_32)
    (constantI S_ 32 0#32) reducesTo_S16777216x3_S16777216_d1 h_S_

/-- A commutative fold over three. -/
theorem fold_three {α : Type} (op : α → α → α) [Std.Commutative op] [Std.Associative op] (e : α) (f : Fin 3 → α) :
    (Finset.univ : Finset (Fin 3)).fold op e f = op (f 0) (op (f 1) (op (f 2) e)) := by
  rw [show (Finset.univ : Finset (Fin 3)) = {0, 1, 2} by decide, Finset.fold_insert (by decide), Finset.fold_insert (by decide), Finset.fold_singleton]

/-- One comparison, as a word. -/
abbrev ge (v b : F .f32) : BitVec 32 := (FloatOps.cmpf .oge v b).setWidth 32

/-- A result of the reference: the sum of its value's three comparisons. -/
theorem counts_apply (x : Vec F S16777216 .f32) (b : Vec F S3 .f32) (j : S16777216.Idx) :
    counts x b j = ge (x j) (b (ix1 0)) + (ge (x j) (b (ix1 1)) + (ge (x j) (b (ix1 2)) + 0#32)) := by
  unfold counts
  rw [Host.reduce_eq_fold, Shape.ReducesTo.fold_fiber_r2_a1]
  refine (fold_three _ _ _).trans ?_
  have hx : ∀ k : Fin 3, (broadcastInDim S16777216x3 ![0, 1] bcast_S16777216x1_S16777216x3_0_1
      (broadcastInDim S16777216x1 ![0] bcast_S16777216_S16777216x1_0 x)) (ix2 (j 0) k) = x j := fun k =>
    congrArg x (funext fun a => match a with | ⟨0, _⟩ => rfl)
  have hb : ∀ k : Fin 3, (broadcastInDim S16777216x3 ![0, 1] bcast_S1x3_S16777216x3_0_1
      (broadcastInDim S1x3 ![1] bcast_S3_S1x3_1 b)) (ix2 (j 0) k) = b (ix1 k) := fun k =>
    congrArg b (funext fun a => match a with | ⟨0, _⟩ => rfl)
  have hk : ∀ k : Fin 3, extui 32 (cmpf .oge
      (broadcastInDim S16777216x3 ![0, 1] bcast_S16777216x1_S16777216x3_0_1 (broadcastInDim S16777216x1 ![0] bcast_S16777216_S16777216x1_0 x))
      (broadcastInDim S16777216x3 ![0, 1] bcast_S1x3_S16777216x3_0_1 (broadcastInDim S1x3 ![1] bcast_S3_S1x3_1 b))) natLt_1_32 (ix2 (j 0) k)
        = ge (x j) (b (ix1 k)) := fun k => by
    show (FloatOps.cmpf .oge _ _).setWidth 32 = _
    rw [hx, hb]
  rw [← hk 0, ← hk 1, ← hk 2]
  rfl

end Reference

/-! ## The two agree on boundaries in order -/

/-- Three boundaries in order: looking the count up is counting. -/
theorem bk_eq_count (b0 b1 b2 v : EReal) (h01 : b0 ≤ b1) (h12 : b1 ≤ b2) :
    bk (F := Ideal) b0 b1 b2 v = ge (F := Ideal) v b0 + (ge (F := Ideal) v b1 + (ge (F := Ideal) v b2 + 0#32)) := by
  show Scalar.select (Ideal.cmp .oge v b1) (Scalar.select (Ideal.cmp .oge v b2) 3#32 2#32) (Scalar.select (Ideal.cmp .oge v b0) 1#32 0#32)
    = (Ideal.cmp .oge v b0).setWidth 32 + ((Ideal.cmp .oge v b1).setWidth 32 + ((Ideal.cmp .oge v b2).setWidth 32 + 0#32))
  unfold Ideal.cmp Scalar.select
  by_cases h1 : b1 ≤ v
  · have h0 : b0 ≤ v := h01.trans h1
    by_cases h2 : b2 ≤ v
    · simp only [h0, h1, h2, decide_true]; decide
    · simp only [h0, h1, h2, decide_true, decide_false]; decide
  · have h2 : ¬ b2 ≤ v := fun h => h1 (h12.trans h)
    by_cases h0 : b0 ≤ v
    · simp only [h0, h1, h2, decide_true, decide_false]; decide
    · simp only [h0, h1, h2, decide_false]; decide

section Pre

open Cert.Pre_is_sorted Cert.Pre_is_sorted.Gen

/-- The precondition says that the boundaries are in order. -/
theorem sorted_of_pre (x : Vec Ideal S16777216 .f32) (b : Vec Ideal S3 .f32) (h : fn (F := Ideal) x b = fun _ => 1#1) :
    (b (ix1 0) : EReal) ≤ b (ix1 1) ∧ (b (ix1 1) : EReal) ≤ b (ix1 2) := by
  have e := congrFun h (Shape.Idx.first (by decide))
  have read : ∀ (k : Fin 3) (hs : S3.Slices ![k.val] S1) (hc : S1.ShapeCasts S_),
      shapeCast S_ (extractStridedSlice S1 ![k.val] b hs) hc (Shape.Idx.first (by decide)) = b (ix1 k) := fun k hs hc => by
    unfold shapeCast extractStridedSlice
    refine congrArg b (funext fun a => Fin.ext ?_)
    match a with
    | ⟨0, _⟩ =>
      show k.val + (_ : Fin 1).val = k.val
      omega
  have e' : IntOp.andi (Ideal.cmp .ole (b (ix1 0)) (b (ix1 1))) (Ideal.cmp .ole (b (ix1 1)) (b (ix1 2))) = 1#1 := by
    rw [← read 0 Facts.slices_S3_S1_0 Facts.shapeCasts_S1_S_, ← read 1 Facts.slices_S3_S1_1 Facts.shapeCasts_S1_S_,
      ← read 2 Facts.slices_S3_S1_2 Facts.shapeCasts_S1_S_]
    exact e
  unfold Ideal.cmp at e'
  by_cases h01 : (b (ix1 0) : EReal) ≤ b (ix1 1)
  · by_cases h12 : (b (ix1 1) : EReal) ≤ b (ix1 2)
    · exact ⟨h01, h12⟩
    · simp only [h01, h12, decide_true, decide_false] at e'; exact absurd e' (by decide)
  · by_cases h12 : (b (ix1 1) : EReal) ≤ b (ix1 2)
    · simp only [h01, h12, decide_true, decide_false] at e'; exact absurd e' (by decide)
    · simp only [h01, h12, decide_false] at e'; exact absurd e' (by decide)

end Pre

open Cert.KernelIdeal Cert.KernelIdeal.Gen in
/-- The kernel's result is the reference's, where the boundaries are in order. -/
theorem res_eq_counts (d : Dev nD) (x : Vec Ideal S16777216 .f32) (b : Vec Ideal S3 .f32)
    (h01 : (b (ix1 0) : EReal) ≤ b (ix1 1)) (h12 : (b (ix1 1) : EReal) ≤ b (ix1 2)) :
    res (F := Ideal) d x (padded b) = counts (F := Ideal) x b := by
  funext j
  refine Eq.trans ?_ (counts_apply x b j).symm
  show bk (F := Ideal) (k0_pay2 (padded b)) (k0_pay3 (padded b)) (k0_pay4 (padded b)) (x j) = _
  rw [first_boundary, second_boundary, third_boundary]
  exact bk_eq_count _ _ _ _ h01 h12

end Cert.Proof.Bucket

end
-- ==== Proof.lean ====
/-
  The certificate of the bucketing kernel: the frames of the kernel at both readings of its floats and of the reference,
  and the equality of their results over the extended reals wherever the boundaries are in order.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_is_sorted
public import proofs.«01_k».proof.Proof.Bucket.Launch
public import proofs.«01_k».proof.Proof.Bucket.Value
public import Idealize.ShloMosaic.Adequacy
public import Idealize.ShloMosaic.Init

@[expose] public section

noncomputable section

namespace Cert.Proof

open Idealize.ShloMosaic Idealize.SL.Sem

/-! ## The frames -/

/-- The kernel over the machine's floats: the launch's run, its values dropped. -/
theorem frame_kernel : Cert.quiescent_Kernel := fun m ρ _ =>
  (θ_run Cert.KernelIdeal.defs _ _).mono (fun _ h => ⟨fun c => ⟨(h.1 c).1, (h.1 c).2.1⟩, h.2⟩) (Bucket.run_main (F := Bits) m ρ)

/-- The kernel over the extended reals. -/
theorem frame_ideal : Cert.quiescent_KernelIdeal := fun m ρ _ =>
  (θ_run Cert.KernelIdeal.defs _ _).mono (fun _ h => ⟨fun c => ⟨(h.1 c).1, (h.1 c).2.1⟩, h.2⟩) (Bucket.run_main (F := Ideal) m ρ)

/-- The same under the precondition, of which the frame has no need. -/
theorem frame_ideal_sorted : Cert.quiescent_KernelIdeal_pre_is_sorted := fun m ρ _ =>
  (θ_run Cert.KernelIdeal.defs _ _).mono (fun _ h => ⟨fun c => ⟨(h.1 c).1, (h.1 c).2.1⟩, h.2⟩) (Bucket.run_main (F := Ideal) m ρ)

/-- The reference: its run writes no argument, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_reference_sorted : Cert.quiescent_ReferenceIdeal_pre_is_sorted := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The values -/

/-- Kernel and reference leave the same array: both that of the counts of the kernel's arguments. -/
theorem agree : Cert.algebraic_KernelIdeal_ReferenceIdeal_pre_is_sorted := by
  intro m g m' g' hpre hagree
  refine ⟨fun c => Bucket.counts (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ?_) (Bucket.run_main (F := Ideal) m g)
    obtain ⟨hx, ha, ho⟩ := h.1 c
    obtain ⟨h01, h12⟩ := Bucket.sorted_of_pre _ _ (hpre c)
    exact ⟨ho.trans (Bucket.res_eq_counts c _ _ h01 h12), hx, ha⟩
  · refine (θ_run Cert.ReferenceIdeal.defs _ _).mono (fun r h c => ?_) (Cert.ReferenceIdeal.Value.run (F := Ideal) m' g')
    refine ⟨(h c).1.trans ?_, (h c).2⟩
    rw [(hagree c).1, (hagree c).2]
    rfl

/-- Everything that is claimed. -/
theorem claim : Cert.Claim :=
  ⟨Cert.Kernel.Gen.facts, Cert.KernelIdeal.Gen.facts, Cert.ReferenceIdeal.Gen.facts, Cert.Pre_is_sorted.Gen.facts,
    frame_kernel, frame_ideal, frame_ideal_sorted, frame_reference, frame_reference_sorted, trivial, agree⟩

end Cert.Proof

end
